-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S3584 : Shape := ⟨1, ![3584]⟩
abbrev S18944x3584 : Shape := ⟨2, ![18944, 3584]⟩
abbrev S18944 : Shape := ⟨1, ![18944]⟩
abbrev S1536x3584 : Shape := ⟨2, ![1536, 3584]⟩
abbrev S1x3584 : Shape := ⟨2, ![1, 3584]⟩
abbrev S1536x1 : Shape := ⟨2, ![1536, 1]⟩
abbrev S256x3584 : Shape := ⟨2, ![256, 3584]⟩
abbrev S256x1 : Shape := ⟨2, ![256, 1]⟩
abbrev S256 : Shape := ⟨1, ![256]⟩
abbrev S1x18944 : Shape := ⟨2, ![1, 18944]⟩
abbrev S1536x18944 : Shape := ⟨2, ![1536, 18944]⟩
abbrev S768x3584 : Shape := ⟨2, ![768, 3584]⟩
abbrev S768x1 : Shape := ⟨2, ![768, 1]⟩
abbrev S512x3584 : Shape := ⟨2, ![512, 3584]⟩
abbrev S1x512 : Shape := ⟨2, ![1, 512]⟩
abbrev S768x512 : Shape := ⟨2, ![768, 512]⟩
abbrev S6x256x18944 : Shape := ⟨3, ![6, 256, 18944]⟩
abbrev S6x256 : Shape := ⟨2, ![6, 256]⟩

abbrev nBuf : Space → Nat
  | .hbm => 19
  | .vmem => 25
  | .smem => 0
  | _ => 0

abbrev bufTy : (tb : Table) → Fin (tcTables nBuf tb) → BufTy
  | .hbm, ⟨0, _⟩ => ⟨S6x256x3584, .bf16⟩
  | .hbm, ⟨1, _⟩ => ⟨S3584, .i32⟩
  | .hbm, ⟨2, _⟩ => ⟨S18944x3584, .i8⟩
  | .hbm, ⟨3, _⟩ => ⟨S18944, .f32⟩
  | .hbm, ⟨4, _⟩ => ⟨S1536x3584, .bf16⟩
  | .hbm, ⟨5, _⟩ => ⟨S1x3584, .i32⟩
  | .hbm, ⟨6, _⟩ => ⟨S1536x3584, .bf16⟩
  | .hbm, ⟨7, _⟩ => ⟨S1536x3584, .bf16⟩
  | .hbm, ⟨8, _⟩ => ⟨S1536x3584, .i8⟩
  | .hbm, ⟨9, _⟩ => ⟨S1536x1, .f32⟩
  | .hbm, ⟨10, _⟩ => ⟨S1x3584, .f32⟩
  | .hbm, ⟨11, _⟩ => ⟨S1x3584, .i32⟩
  | .hbm, ⟨12, _⟩ => ⟨S1x18944, .f32⟩
  | .hbm, ⟨13, _⟩ => ⟨S1536x18944, .bf16⟩
  | .hbm, ⟨14, _⟩ => ⟨S6x256x18944, .bf16⟩
  | .hbm, ⟨15, _⟩ => ⟨S3584, .f32⟩
  | .hbm, ⟨16, _⟩ => ⟨S3584, .i32⟩
  | .hbm, ⟨17, _⟩ => ⟨S6x256x3584, .i8⟩
  | .hbm, ⟨18, _⟩ => ⟨S6x256, .f32⟩
  | .local _ .vmem, ⟨0, _⟩ => ⟨S256x3584, .bf16⟩
  | .local _ .vmem, ⟨1, _⟩ => ⟨S256x3584, .bf16⟩
  | .local _ .vmem, ⟨2, _⟩ => ⟨S1x3584, .i32⟩
  | .local _ .vmem, ⟨3, _⟩ => ⟨S256x3584, .bf16⟩
  | .local _ .vmem, ⟨4, _⟩ => ⟨S256x3584, .bf16⟩
  | .local _ .vmem, ⟨5, _⟩ => ⟨S256x3584, .bf16⟩
  | .local _ .vmem, ⟨6, _⟩ => ⟨S256x3584, .bf16⟩
  | .local _ .vmem, ⟨7, _⟩ => ⟨S256x3584, .i8⟩
  | .local _ .vmem, ⟨8, _⟩ => ⟨S256x3584, .i8⟩
  | .local _ .vmem, ⟨9, _⟩ => ⟨S256x1, .f32⟩
  | .local _ .vmem, ⟨10, _⟩ => ⟨S256x1, .f32⟩
  | .local _ .vmem, ⟨11, _⟩ => ⟨S1x3584, .f32⟩
  | .local _ .vmem, ⟨12, _⟩ => ⟨S1x3584, .i32⟩
  | .local _ .vmem, ⟨13, _⟩ => ⟨S768x3584, .bf16⟩
  | .local _ .vmem, ⟨14, _⟩ => ⟨S768x3584, .bf16⟩
  | .local _ .vmem, ⟨15, _⟩ => ⟨S768x3584, .bf16⟩
  | .local _ .vmem, ⟨16, _⟩ => ⟨S768x3584, .bf16⟩
  | .local _ .vmem, ⟨17, _⟩ => ⟨S768x1, .f32⟩
  | .local _ .vmem, ⟨18, _⟩ => ⟨S768x1, .f32⟩
  | .local _ .vmem, ⟨19, _⟩ => ⟨S512x3584, .i8⟩
  | .local _ .vmem, ⟨20, _⟩ => ⟨S512x3584, .i8⟩
  | .local _ .vmem, ⟨21, _⟩ => ⟨S1x512, .f32⟩
  | .local _ .vmem, ⟨22, _⟩ => ⟨S1x512, .f32⟩
  | .local _ .vmem, ⟨23, _⟩ => ⟨S768x512, .bf16⟩
  | .local _ .vmem, ⟨24, _⟩ => ⟨S768x512, .bf16⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_cond2 (i : grid0.Coords) : BitVec 1 :=
  let arg0 : BitVec 32 := BitVec.ofNat 32 (i 0).val
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3584 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![37, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S768x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S768x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x3584 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S768x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S6x256x3584 : Shape := ⟨3, ![6, 256, 3584]⟩
abbrev S3584 : Shape := ⟨1, ![3584]⟩
abbrev S18944x3584 : Shape := ⟨2, ![18944, 3584]⟩
abbrev S18944 : Shape := ⟨1, ![18944]⟩
abbrev S6x256x18944 : Shape := ⟨3, ![6, 256, 18944]⟩
abbrev S6x256 : Shape := ⟨2, ![6, 256]⟩
abbrev S1x1x3584 : Shape := ⟨3, ![1, 1, 3584]⟩
abbrev S6x256x1 : Shape := ⟨3, ![6, 256, 1]⟩
abbrev S1x1x18944 : Shape := ⟨3, ![1, 1, 18944]⟩

abbrev nBuf : Space → Nat
  | .hbm => 9
  | .vmem => 9
  | .smem => 0
  | _ => 0

abbrev bufTy : (tb : Table) → Fin (tcTables nBuf tb) → BufTy
  | .hbm, ⟨0, _⟩ => ⟨S6x256x3584, .bf16⟩
  | .hbm, ⟨1, _⟩ => ⟨S3584, .i32⟩
  | .hbm, ⟨2, _⟩ => ⟨S18944x3584, .i8⟩
  | .hbm, ⟨3, _⟩ => ⟨S18944, .f32⟩
  | .hbm, ⟨4, _⟩ => ⟨S6x256x18944, .bf16⟩
  | .hbm, ⟨5, _⟩ => ⟨S3584, .f32⟩
  | .hbm, ⟨6, _⟩ => ⟨S3584, .i32⟩
  | .hbm, ⟨7, _⟩ => ⟨S6x256x3584, .i8⟩
  | .hbm, ⟨8, _⟩ => ⟨S6x256, .f32⟩
  | .local _ .vmem, ⟨0, _⟩ => ⟨S6x256x3584, .bf16⟩
  | .local _ .vmem, ⟨1, _⟩ => ⟨S3584, .i32⟩
  | .local _ .vmem, ⟨2, _⟩ => ⟨S18944x3584, .i8⟩
  | .local _ .vmem, ⟨3, _⟩ => ⟨S18944, .f32⟩
  | .local _ .vmem, ⟨4, _⟩ => ⟨S6x256x18944, .bf16⟩
  | .local _ .vmem, ⟨5, _⟩ => ⟨S3584, .f32⟩
  | .local _ .vmem, ⟨6, _⟩ => ⟨S3584, .i32⟩
  | .local _ .vmem, ⟨7, _⟩ => ⟨S6x256x3584, .i8⟩
  | .local _ .vmem, ⟨8, _⟩ => ⟨S6x256, .f32⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x3584 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelIdealQuantise.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

/-! The quantising region, at any contents `V` the buffers hold when it is entered. -/

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Whether output 6's buffer is FRESH at each position `1 ‥ N` — holds nothing the body stored since the region's entry or the
    last write-back (written back at the point before, or idle there and fresh before it) —, as a bitmask
    with bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x20 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

/-- One staging buffer of output window 2, through which its contents are stated (`View.read_writes_of_cover`: the
    choice does not matter). -/
abbrev VO0_2 : View sig .tc .vmem S256x3584 .bf16 := (Memref.whole cc0_stg2_0 : Memref sig .tc .vmem S256x3584 .bf16).view
/-- One staging buffer of output window 3, through which its contents are stated (`View.read_writes_of_cover`: the
    choice does not matter). -/
abbrev VO0_3 : View sig .tc .vmem S256x3584 .bf16 := (Memref.whole cc0_stg3_0 : Memref sig .tc .vmem S256x3584 .bf16).view
/-- One staging buffer of output window 4, through which its contents are stated (`View.read_writes_of_cover`: the
    choice does not matter). -/
abbrev VO0_4 : View sig .tc .vmem S256x3584 .i8 := (Memref.whole cc0_stg4_0 : Memref sig .tc .vmem S256x3584 .i8).view
/-- One staging buffer of output window 5, through which its contents are stated (`View.read_writes_of_cover`: the
    choice does not matter). -/
abbrev VO0_5 : View sig .tc .vmem S256x1 .f32 := (Memref.whole cc0_stg5_0 : Memref sig .tc .vmem S256x1 .f32).view
/-- One staging buffer of output window 6, through which its contents are stated (`View.read_writes_of_cover`: the
    choice does not matter). -/
abbrev VO0_6 : View sig .tc .vmem S1x3584 .f32 := (Memref.whole cc0_stg6_0 : Memref sig .tc .vmem S1x3584 .f32).view
/-- One staging buffer of output window 7, through which its contents are stated (`View.read_writes_of_cover`: the
    choice does not matter). -/
abbrev VO0_7 : View sig .tc .vmem S1x3584 .i32 := (Memref.whole cc0_stg7_0 : Memref sig .tc .vmem S1x3584 .i32).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3584 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3584 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3584 .i32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) :
    Σ' (L2 : List (View.Piece (Elt F) S256x3584 .bf16)), Σ' (L3 : List (View.Piece (Elt F) S256x3584 .bf16)), Σ' (L4 : List (View.Piece (Elt F) S256x3584 .i8)), Σ' (L5 : List (View.Piece (Elt F) S256x1 .f32)), Σ' (L6 : List (View.Piece (Elt F) S1x3584 .f32)), { L7 : List (View.Piece (Elt F) S1x3584 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0_quantise_eq_skeleton]; unfold cc0_quantise_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-- Case A's pieces for output 2 tile its block (1 store of `S256x3584`, checked by the kernel's evaluation: Lib/Ring.lean `Piece.tiledL`, linear in the pieces, through a loop's `@[irreducible]` trip theorem too), so they cover it. -/
theorem cover0_A_2 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S256x3584.Idx) :
    ∃ pc ∈ (kernelRun0_A c i arg1 harg1 arg2 harg2 arg3 harg3 arg4 harg4 arg5 harg5 arg6 harg6 arg7 harg7 arg8 harg8 hc0 hc1 x0 x1).1, y ∈ pc.1.set :=
  View.cover_of_tiledL (kernelRun0_A c i arg1 harg1 arg2 harg2 arg3 harg3 arg4 harg4 arg5 harg5 arg6 harg6 arg7 harg7 arg8 harg8 hc0 hc1 x0 x1).1 S256x3584.size (by sl_kernel_rfl) y

/-- What case A leaves in output 2's staging buffer: its pieces read back over junk. -/
def out0_A_2 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S256x3584 .bf16 :=
  VO0_2.read (Elt F) (VO0_2.writes (Elt F) VO0_2.junk (kernelRun0_A c i arg1 harg1 arg2 harg2 arg3 harg3 arg4 harg4 arg5 harg5 arg6 harg6 arg7 harg7 arg8 harg8 hc0 hc1 x0 x1).1)

/-- Case A's pieces for output 3 tile its block (1 store of `S256x3584`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S256x3584.Idx) :
    ∃ pc ∈ (kernelRun0_A c i arg1 harg1 arg2 harg2 arg3 harg3 arg4 harg4 arg5 harg5 arg6 harg6 arg7 harg7 arg8 harg8 hc0 hc1 x0 x1).2.1, y ∈ pc.1.set :=
  View.cover_of_tiledL (kernelRun0_A c i arg1 harg1 arg2 harg2 arg3 harg3 arg4 harg4 arg5 harg5 arg6 harg6 arg7 harg7 arg8 harg8 hc0 hc1 x0 x1).2.1 S256x3584.size (by sl_kernel_rfl) y

/-- What case A leaves in output 3's staging buffer: its pieces read back over junk. -/
def out0_A_3 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S256x3584 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1).2.1)

/-- Case A's pieces for output 4 tile its block (1 store of `S256x3584`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S256x3584.Idx) :
    ∃ pc ∈ (kernelRun0_A c i arg1 harg1 arg2 harg2 arg3 harg3 arg4 harg4 arg5 harg5 arg6 harg6 arg7 harg7 arg8 harg8 hc0 hc1 x0 x1).2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.1 S256x3584.size (by sl_kernel_rfl) y

/-- What case A leaves in output 4's staging buffer: its pieces read back over junk. -/
def out0_A_4 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S256x3584 .i8 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1).2.2.1)

/-- Case A's pieces for output 5 tile its block (1 store of `S256x1`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S256x1.Idx) :
    ∃ pc ∈ (kernelRun0_A c i arg1 harg1 arg2 harg2 arg3 harg3 arg4 harg4 arg5 harg5 arg6 harg6 arg7 harg7 arg8 harg8 hc0 hc1 x0 x1).2.2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.2.1 S256x1.size (by sl_kernel_rfl) y

/-- What case A leaves in output 5's staging buffer: its pieces read back over junk. -/
def out0_A_5 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S256x1 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1).2.2.2.1)

/-- Case A's pieces for output 6 tile its block (1 store of `S1x3584`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S1x3584.Idx) :
    ∃ pc ∈ (kernelRun0_A c i arg1 harg1 arg2 harg2 arg3 harg3 arg4 harg4 arg5 harg5 arg6 harg6 arg7 harg7 arg8 harg8 hc0 hc1 x0 x1).2.2.2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.2.2.1 S1x3584.size (by sl_kernel_rfl) y

/-- What case A leaves in output 6's staging buffer: its pieces read back over junk. -/
def out0_A_6 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S1x3584 .f32 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1).2.2.2.2.1)

/-- Case A's pieces for output 7 tile its block (1 store of `S1x3584`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) (y : S1x3584.Idx) :
    ∃ pc ∈ (kernelRun0_A c i arg1 harg1 arg2 harg2 arg3 harg3 arg4 harg4 arg5 harg5 arg6 harg6 arg7 harg7 arg8 harg8 hc0 hc1 x0 x1).2.2.2.2.2.1, y ∈ pc.1.set :=
  View.cover_of_tiledL (kernelRun0_A c i arg1 harg1 arg2 harg2 arg3 harg3 arg4 harg4 arg5 harg5 arg6 harg6 arg7 harg7 arg8 harg8 hc0 hc1 x0 x1).2.2.2.2.2.1 S1x3584.size (by sl_kernel_rfl) y

/-- What case A leaves in output 7's staging buffer: its pieces read back over junk. -/
def out0_A_7 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : cond0_0 i) (hc1 : ¬cond0_1 i)
    (x0 : Vec F S256x3584 .bf16) (x1 : Vec F S1x3584 .i32) : Vec F S1x3584 .i32 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1).2.2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, 3, 4, 5), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) :
    Σ' (L2 : List (View.Piece (Elt F) S256x3584 .bf16)), Σ' (L3 : List (View.Piece (Elt F) S256x3584 .bf16)), Σ' (L4 : List (View.Piece (Elt F) S256x3584 .i8)), Σ' (L5 : List (View.Piece (Elt F) S256x1 .f32)), Σ' (L6 : List (View.Piece (Elt F) S1x3584 .f32)), { L7 : List (View.Piece (Elt F) S1x3584 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, ?_, ?_, ?_, fun E K => ?run⟩
  case run =>
    simp only [cc0_quantise_eq_skeleton]; unfold cc0_quantise_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, ⟨%d7, %f7, -, H7⟩, Hk⟩
    obtain rfl := harg1.eq_unread hf0; obtain rfl := harg2.eq_unread hf1; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-- Case B's pieces for output 2 tile its block (1 store of `S256x3584`, checked by the kernel's evaluation: Lib/Ring.lean `Piece.tiledL`, linear in the pieces, through a loop's `@[irreducible]` trip theorem too), so they cover it. -/
theorem cover0_B_2 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S256x3584.Idx) :
    ∃ pc ∈ (kernelRun0_B c i arg1 harg1 arg2 harg2 arg3 harg3 arg4 harg4 arg5 harg5 arg6 harg6 arg7 harg7 arg8 harg8 hc0 hc1 x0 x1 xo6).1, y ∈ pc.1.set :=
  View.cover_of_tiledL (kernelRun0_B c i arg1 harg1 arg2 harg2 arg3 harg3 arg4 harg4 arg5 harg5 arg6 harg6 arg7 harg7 arg8 harg8 hc0 hc1 x0 x1 xo6).1 S256x3584.size (by sl_kernel_rfl) y

/-- What case B leaves in output 2's staging buffer: its pieces read back over junk. -/
def out0_B_2 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S256x3584 .bf16 :=
  VO0_2.read (Elt F) (VO0_2.writes (Elt F) VO0_2.junk (kernelRun0_B c i arg1 harg1 arg2 harg2 arg3 harg3 arg4 harg4 arg5 harg5 arg6 harg6 arg7 harg7 arg8 harg8 hc0 hc1 x0 x1 xo6).1)

/-- Case B's pieces for output 3 tile its block (1 store of `S256x3584`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S256x3584.Idx) :
    ∃ pc ∈ (kernelRun0_B c i arg1 harg1 arg2 harg2 arg3 harg3 arg4 harg4 arg5 harg5 arg6 harg6 arg7 harg7 arg8 harg8 hc0 hc1 x0 x1 xo6).2.1, y ∈ pc.1.set :=
  View.cover_of_tiledL (kernelRun0_B c i arg1 harg1 arg2 harg2 arg3 harg3 arg4 harg4 arg5 harg5 arg6 harg6 arg7 harg7 arg8 harg8 hc0 hc1 x0 x1 xo6).2.1 S256x3584.size (by sl_kernel_rfl) y

/-- What case B leaves in output 3's staging buffer: its pieces read back over junk. -/
def out0_B_3 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S256x3584 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 xo6).2.1)

/-- Case B's pieces for output 4 tile its block (1 store of `S256x3584`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S256x3584.Idx) :
    ∃ pc ∈ (kernelRun0_B c i arg1 harg1 arg2 harg2 arg3 harg3 arg4 harg4 arg5 harg5 arg6 harg6 arg7 harg7 arg8 harg8 hc0 hc1 x0 x1 xo6).2.2.1, y ∈ pc.1.set :=
  View.cover_of_tiledL (kernelRun0_B c i arg1 harg1 arg2 harg2 arg3 harg3 arg4 harg4 arg5 harg5 arg6 harg6 arg7 harg7 arg8 harg8 hc0 hc1 x0 x1 xo6).2.2.1 S256x3584.size (by sl_kernel_rfl) y

/-- What case B leaves in output 4's staging buffer: its pieces read back over junk. -/
def out0_B_4 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S256x3584 .i8 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 xo6).2.2.1)

/-- Case B's pieces for output 5 tile its block (1 store of `S256x1`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S256x1.Idx) :
    ∃ pc ∈ (kernelRun0_B c i arg1 harg1 arg2 harg2 arg3 harg3 arg4 harg4 arg5 harg5 arg6 harg6 arg7 harg7 arg8 harg8 hc0 hc1 x0 x1 xo6).2.2.2.1, y ∈ pc.1.set :=
  View.cover_of_tiledL (kernelRun0_B c i arg1 harg1 arg2 harg2 arg3 harg3 arg4 harg4 arg5 harg5 arg6 harg6 arg7 harg7 arg8 harg8 hc0 hc1 x0 x1 xo6).2.2.2.1 S256x1.size (by sl_kernel_rfl) y

/-- What case B leaves in output 5's staging buffer: its pieces read back over junk. -/
def out0_B_5 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S256x1 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 xo6).2.2.2.1)

/-- Case B's pieces for output 6 tile its block (1 store of `S1x3584`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S1x3584.Idx) :
    ∃ pc ∈ (kernelRun0_B c i arg1 harg1 arg2 harg2 arg3 harg3 arg4 harg4 arg5 harg5 arg6 harg6 arg7 harg7 arg8 harg8 hc0 hc1 x0 x1 xo6).2.2.2.2.1, y ∈ pc.1.set :=
  View.cover_of_tiledL (kernelRun0_B c i arg1 harg1 arg2 harg2 arg3 harg3 arg4 harg4 arg5 harg5 arg6 harg6 arg7 harg7 arg8 harg8 hc0 hc1 x0 x1 xo6).2.2.2.2.1 S1x3584.size (by sl_kernel_rfl) y

/-- What case B leaves in output 6's staging buffer: its pieces read back over junk. -/
def out0_B_6 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S1x3584 .f32 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 xo6).2.2.2.2.1)

/-- Case B's pieces for output 7 tile its block (1 store of `S1x3584`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) (y : S1x3584.Idx) :
    ∃ pc ∈ (kernelRun0_B c i arg1 harg1 arg2 harg2 arg3 harg3 arg4 harg4 arg5 harg5 arg6 harg6 arg7 harg7 arg8 harg8 hc0 hc1 x0 x1 xo6).2.2.2.2.2.1, y ∈ pc.1.set :=
  View.cover_of_tiledL (kernelRun0_B c i arg1 harg1 arg2 harg2 arg3 harg3 arg4 harg4 arg5 harg5 arg6 harg6 arg7 harg7 arg8 harg8 hc0 hc1 x0 x1 xo6).2.2.2.2.2.1 S1x3584.size (by sl_kernel_rfl) y

/-- What case B leaves in output 7's staging buffer: its pieces read back over junk. -/
def out0_B_7 (c : Dev nD) (i : grid0.Coords) (arg1 : Memref sig .tc .vmem S256x3584 .bf16) (harg1 : arg1.IsWhole) (arg2 : Memref sig .tc .vmem S1x3584 .i32) (harg2 : arg2.IsWhole) (arg3 : Memref sig .tc .vmem S256x3584 .bf16) (harg3 : arg3.IsWhole) (arg4 : Memref sig .tc .vmem S256x3584 .bf16) (harg4 : arg4.IsWhole) (arg5 : Memref sig .tc .vmem S256x3584 .i8) (harg5 : arg5.IsWhole) (arg6 : Memref sig .tc .vmem S256x1 .f32) (harg6 : arg6.IsWhole) (arg7 : Memref sig .tc .vmem S1x3584 .f32) (harg7 : arg7.IsWhole) (arg8 : Memref sig .tc .vmem S1x3584 .i32) (harg8 : arg8.IsWhole) (hc0 : ¬cond0_0 i) (hc1 : cond0_1 i)
    (x0 : Vec F S256x3584 .bf16) (x1 : Vec F S1x3584 .i32) (xo6 : Vec F S1x3584 .f32) : Vec F S1x3584 .i32 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 xo6).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x3584 .bf16 × Vec F S256x3584 .bf16 × Vec F S256x3584 .i8 × Vec F S256x1 .f32 × Vec F S1x3584 .f32 × Vec F S1x3584 .i32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 6 = 0 then
      if h1 : 1 ≤ (n + 1) then
        False.elim (by have hN : n + 1 < 6 := lt_of_lt_of_eq hn (show cfg0.N = 6 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.2.1)
      else
        False.elim (by have hN : n + 1 < 6 := lt_of_lt_of_eq hn (show cfg0.N = 6 from N_0); omega)

/-- `outsAt0` at a point of case A: that case's contents. -/
theorem outsAt0_A (c : Dev nD) (t : Fin cfg0.N) (h0 : t.val % 6 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 6 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the library's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
    | ⟨6, _⟩ => (outsAt0 V c t.val t.isLt).2.2.2.2.1
    | ⟨7, _⟩ => (outsAt0 V c t.val t.isLt).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem after0_6 (c : Dev nD) (t : Fin cfg0.N) : (dat0 V c).after 6 t = (outsAt0 V c t.val t.isLt).2.2.2.2.1 := by dsimp only [dat0]
theorem after0_7 (c : Dev nD) (t : Fin cfg0.N) : (dat0 V c).after 7 t = (outsAt0 V c t.val t.isLt).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  have hN : t.val < 6 := lt_of_lt_of_eq t.isLt (show cfg0.N = 6 from N_0)
  rw [after0_6, after0_6]
  by_cases h0 : t.val % 6 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 6 = 0) (h1 : 1 ≤ t.val) (d) :
    (dat0 V c).before 6 t d = (outsAt0 V c (t.val - 1) (Nat.lt_of_le_of_lt (Nat.sub_le _ _) t.isLt)).2.2.2.2.1 := by
  rw [Dat.before_out_traj _ 6 rfl (fun _ _ => rfl) (hcarry0_6 V c) t.val t rfl d,
    if_neg (by rw [notFresh0_6_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 6 := lt_of_lt_of_eq t.isLt (show cfg0.N = 6 from N_0)
  by_cases h0 : t.val % 6 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h))], after0_6]
      rw [show (dat0 V c).leavesExact 7 t = owns (c : Thread nD τ) (ms0_7 t) fullShare ((dat0 V c).after 7 t) from by
      unfold Dat.leavesExact; rw [liveAt0_7 t], after0_7]
      rw [outsAt0_A V c t h0 h1]
      unfold out0_A_2 out0_A_3 out0_A_4 out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iintro ⟨H0, H1, ⟨%e2, H2⟩, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1)], after0_6]
      rw [show (dat0 V c).leavesExact 7 t = owns (c : Thread nD τ) (ms0_7 t) fullShare ((dat0 V c).after 7 t) from by
      unfold Dat.leavesExact; rw [liveAt0_7 t], after0_7]
      rw [outsAt0_B V c t h0 h1]
      simp only [before0_6_B V c t h0 h1]
      unfold out0_B_2 out0_B_3 out0_B_4 out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexact H6
      isplitl [H7]; · iexists _; iexact H7
      iintro ⟨H0, H1, ⟨%e2, H2⟩, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions
end Cert.KernelIdeal.Own

end
-- ==== Proof.KernelIdealMatmul.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

/-! The matrix-multiplying region, at any contents `V` the buffers hold when it is entered. -/

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x3584 := Rect.unit (s := S512x3584) ![0, 0] S512x3584.size inb_S512x3584_S512x3584_0_0
abbrev r1_1 : Rect S768x3584 := Rect.unit (s := S768x3584) ![0, 0] S768x3584.size inb_S768x3584_S768x3584_0_0
abbrev r1_2 : Rect S768x1 := Rect.unit (s := S768x1) ![0, 0] S768x1.size inb_S768x1_S768x1_0_0
abbrev r1_3 : Rect S1x512 := Rect.unit (s := S1x512) ![0, 0] S1x512.size inb_S1x512_S1x512_0_0
abbrev r1_4 : Rect S768x512 := Rect.unit (s := S768x512) ![0, 0] S768x512.size inb_S768x512_S768x512_0_0

/-! ## What the body leaves in each output window's buffer -/

/-- Window 5's staging buffer after the body, from the input windows' blocks: its 1 store as pieces, LAST
    FIRST (Lib/Pipeline/FrameBody.lean `View.canon`; the payloads are the skeleton's). -/
def out1_5 (x0 : Vec F S768x3584 .bf16) (x1 : Vec F S768x3584 .bf16) (x2 : Vec F S768x1 .f32) (x3 : Vec F S512x3584 .i8) (x4 : Vec F S1x512 .f32) : Vec F S768x512 .bf16 :=
  View.canon [⟨r1_4, k1_pay1 (View.ld x3 r1_0) (View.ld x0 r1_1) (View.ld x1 r1_1) (View.ld x2 r1_2) (View.ld x4 r1_3)⟩]

/-- Its stores tile the buffer (checked by evaluation), so they cover it. -/
theorem cover1_5 (p0 : Vec F S768x512 .bf16) (y : S768x512.Idx) :
    ∃ pc ∈ ([⟨r1_4, p0⟩] : List (View.Piece (Elt F) S768x512 .bf16)), y ∈ pc.1.set :=
  View.cover_of_tiled [⟨r1_4, p0⟩] S768x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S768x3584 .bf16) (harg2 : arg2.IsWhole) (arg3 : Memref sig .tc .vmem S768x3584 .bf16) (harg3 : arg3.IsWhole) (arg4 : Memref sig .tc .vmem S768x1 .f32) (harg4 : arg4.IsWhole) (arg5 : Memref sig .tc .vmem S512x3584 .i8) (harg5 : arg5.IsWhole) (arg6 : Memref sig .tc .vmem S1x512 .f32) (harg6 : arg6.IsWhole) (arg7 : Memref sig .tc .vmem S768x512 .bf16) (harg7 : arg7.IsWhole)
    (x0 : Vec F S768x3584 .bf16) (x1 : Vec F S768x3584 .bf16) (x2 : Vec F S768x1 .f32) (x3 : Vec F S512x3584 .i8) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1_matmul i arg2 harg2 arg3 harg3 arg4 harg4 arg5 harg5 arg6 harg6 arg7 harg7) K := by
  simp only [cc1_matmul_eq_skeleton]; unfold cc1_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant the
    library's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.KernelIdeal.Own

end
-- ==== Proof.KernelIdealRun.lean ====
module

public import proofs.«01_k».proof.Proof.KernelIdealQuantise
public import proofs.«01_k».proof.Proof.KernelIdealMatmul

@[expose] public section

/-! The run of `main`: what every buffer holds between its stretches and regions, and the frame. -/

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the library's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    library's invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    library's invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters every weakly fair execution of `main` terminates, nothing faulting,
    every unscoped buffer then holding what the last boundary's valuation `W5` says and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every argument array ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩), h.2⟩) (run_all m ρ)

end Cert.KernelIdeal.Own

end
-- ==== Proof.KernelRun.lean ====
module

public import proofs.«01_k».proof.Proof.Gen.Kernel
public import proofs.«01_k».proof.Proof.KernelIdealRun

@[expose] public section

/-! The compiled program's frame.  `Kernel` and `KernelIdeal` are the same text, printed twice: no operation is replaced
between them.  So the frame proved of `KernelIdeal` over any carrier of floats is `Kernel`'s too, once the two programs and
their tables of kernel bodies are seen to be equal. -/

noncomputable section

namespace Cert.Kernel.Own

open Idealize.ShloMosaic Idealize.SL.Sem Idealize.ShloMosaic.TcCoe

variable {F : FTy → Type} [FloatOps F]

set_option maxHeartbeats 1000000 in
/-- The tables of kernel bodies agree, label by label. -/
theorem defs₀_eq : Cert.Kernel.defs₀ (F := F) = Cert.KernelIdeal.defs₀ (F := F) := by
  refine congrArg Defs.onTc (funext fun l => funext fun a => ?_)
  match l, a with
  | 0, (t, s) => exact rfl
  | 1, (t, s) => exact rfl

/-- The tables of every label agree. -/
theorem defs_eq : Cert.Kernel.defs (F := F) = Cert.KernelIdeal.defs (F := F) :=
  congrArg (Pipeline.defs (Cert.KernelIdeal.pcfgs (F := F))) (defs₀_eq (F := F))

/-- The programs agree. -/
theorem main_eq : Cert.Kernel.main (F := F) = Cert.KernelIdeal.main (F := F) := by rfl

/-- THE FRAME of `Kernel`: every argument array ends as launched, every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Own.frame m ρ

end Cert.Kernel.Own

end
-- ==== Proof.QuantisePoint.lean ====
module

public import proofs.«01_k».proof.Proof.KernelIdealQuantise
public import Idealize.ShloMosaic.Lib.Pipeline.Value

@[expose] public section

/-! What one point of the quantising region leaves in its six output blocks, in terms of the row block and the
mask it reads and, after the first point, of the column maxima found so far. -/

set_option synthInstance.maxSize 4096
set_option maxRecDepth 16384

noncomputable section

namespace Cert.KernelIdeal.Own

open Idealize.ShloMosaic Idealize.ShloMosaic.TcCoe Idealize.SL.Sem
open Cert.KernelIdeal Cert.KernelIdeal.Gen

variable {F : FTy → Type} [FloatOps F]

/-- The offsets of a load or a store of a whole two-axis block are zero. -/
theorem zeros : (![0, 0] : Fin 2 → Nat) = fun _ => 0 := funext fun a => by fin_cases a <;> rfl

/-- A load of the whole of a staging buffer that holds `x` gives `x`. -/
theorem readAt_whole {S : Shape} {e : EltTy} (m : Memref sig .tc .vmem S e) (h : m.IsWhole) {off : Fin S.rank → Nat}
    (ho : off = fun _ => 0) (inb : ∀ a, off a + S.size a ≤ S.size a) (x : S.Idx → Elt F e) :
    m.view.readAt (Elt F) (Rect.unit off S.size inb).toLoadRect (h.unread x) = x := by
  rw [View.readAt_eq_ld, h.read_unread, View.ld_unit_zero ho]

/-- What a point leaves, window by window: the clipped quotients, the outlier columns, the codes, the row scales, the
    column maxima `cm` and the flags of the columns whose maximum passes the threshold. -/
def left (x : Vec F S256x3584 .bf16) (m : Vec F S1x3584 .i32) (cm : Vec F S1x3584 .f32) :
    Vec F S256x3584 .bf16 × Vec F S256x3584 .bf16 × Vec F S256x3584 .i8 × Vec F S256x1 .f32 × Vec F S1x3584 .f32
      × Vec F S1x3584 .i32 :=
  (k0_pay3 (k0_pay10 x m) (k0_pay11 x m), k0_pay4 (k0_pay5 x) (k0_pay6 m), k0_pay2 (k0_pay10 x m) (k0_pay11 x m),
    k0_pay11 x m, cm, k0_pay9 cm)

variable (V : (c : Dev nD) → (b : Ref sig .tc) → Buf (Elt F) ((c : Thread nD τ).loc b))

/-- The first point: the column maxima are those of its own rows. -/
theorem outsAt0_first (c : Dev nD) (t : Fin cfg0.N) (h0 : t.val % 6 = 0) (h1 : ¬1 ≤ t.val) :
    outsAt0 V c t.val t.isLt = left (iblk0 V c 0 t) (iblk0 V c 1 t) (k0_pay7 (iblk0 V c 0 t)) := by
  rw [outsAt0_A V c t h0 h1]
  unfold out0_A_2 out0_A_3 out0_A_4 out0_A_5 out0_A_6 out0_A_7 left kernelRun0_A
  dsimp only
  simp only [View.read_writes_junk_eq_canon, kernelRun0_A.sl.r, kernelRun0_A.sl.r_1, kernelRun0_A.sl.r_2,
    kernelRun0_A.sl.r_3, kernelRun0_A.sl.v16, kernelRun0_A.sl.H6_1, View.canon_unit_zero (S := S256x3584) zeros,
    View.canon_unit_zero (S := S256x1) zeros, View.canon_unit_zero (S := S1x3584) zeros,
    View.readCov_unit_zero (S := S1x3584) _ zeros, readAt_whole (S := S256x3584) _ _ zeros,
    readAt_whole (S := S1x3584) _ _ zeros]

/-- A later point: the column maxima are the greater of those before and those of its own rows. -/
theorem outsAt0_later (c : Dev nD) (t : Fin cfg0.N) (h0 : ¬t.val % 6 = 0) (h1 : 1 ≤ t.val) :
    outsAt0 V c t.val t.isLt = left (iblk0 V c 0 t) (iblk0 V c 1 t)
      (k0_pay8 (iblk0 V c 0 t) (outsAt0 V c (t.val - 1) (by omega)).2.2.2.2.1) := by
  rw [outsAt0_B V c t h0 h1]
  unfold out0_B_2 out0_B_3 out0_B_4 out0_B_5 out0_B_6 out0_B_7 left kernelRun0_B
  dsimp only
  simp only [View.read_writes_junk_eq_canon, kernelRun0_B.sl.r, kernelRun0_B.sl.r_1, kernelRun0_B.sl.r_2,
    kernelRun0_B.sl.r_3, kernelRun0_B.sl.v16, kernelRun0_B.sl.H6_1, View.canon_unit_zero (S := S256x3584) zeros,
    View.canon_unit_zero (S := S256x1) zeros, View.canon_unit_zero (S := S1x3584) zeros,
    View.readCov_unit_zero (S := S1x3584) _ zeros, readAt_whole (S := S256x3584) _ _ zeros,
    readAt_whole (S := S1x3584) _ _ zeros]

end Cert.KernelIdeal.Own
-- ==== Proof.QuantiseBlocks.lean ====
module

public import proofs.«01_k».proof.Proof.QuantisePoint
public import Idealize.ShloMosaic.Lib.Pointwise

@[expose] public section

/-! Where the blocks of the quantising region lie in their arrays: point `t` has rows `256 t …` of the matrices and of
the scales, and the whole of the one-row arrays. -/

noncomputable section

namespace Cert.KernelIdeal.Own

open Idealize.ShloMosaic Idealize.ShloMosaic.TcCoe Idealize.SL.Sem
open Idealize.ShloMosaic.Pipeline (Dat Cfg Window)
open Cert.KernelIdeal Cert.KernelIdeal.Gen

/-- Row `q` of row block `b`. -/
def rowOf (b : Fin 6) (q : Fin 256) : Fin 1536 := ⟨256 * b.val + q.val, by omega⟩

/-- Every row lies in a row block. -/
theorem exists_rowOf (r : Fin 1536) : ∃ b q, rowOf b q = r :=
  ⟨⟨r.val / 256, by omega⟩, ⟨r.val % 256, by omega⟩, Fin.ext (by show 256 * (r.val / 256) + r.val % 256 = r.val; omega)⟩

/-- The row blocks' indices, for all windows over the matrices and the scales. -/
theorem index_rows : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) := by decide

/-- The one-row arrays' block is always the first. -/
theorem index_once : ∀ t : Fin cfg0.N, (win0_1.index t 0 = 0 ∧ win0_1.index t 1 = 0) ∧ (win0_6.index t 0 = 0 ∧ win0_6.index t 1 = 0)
    ∧ (win0_7.index t 0 = 0 ∧ win0_7.index t 1 = 0) := by decide

/-- A two-axis index is known by its coordinates. -/
theorem idx_eq {n0 n1 : Nat} (i : (⟨2, ![n0, n1]⟩ : Shape).Idx) (a : Fin n0) (b : Fin n1) (h0 : (i 0).val = a.val)
    (h1 : (i 1).val = b.val) : i = ix2 a b := by
  funext x; apply Fin.ext
  match x with
  | ⟨0, _⟩ => exact h0
  | ⟨1, _⟩ => exact h1

/-- An element of block `t` lies on row `q` of row block `t`. -/
theorem row_val {d n : Nat} {t : Fin 6} {q : Fin 256} (h : n = d * 256 + q.val) (hd : d = t.val) : n = (rowOf t q).val := by
  subst h hd; show t.val * 256 + q.val = 256 * t.val + q.val; omega

/-- Along an axis the block has whole, an element keeps its place. -/
theorem col_val {d n m k : Nat} (h : n = d * m + k) (hd : d = 0) : n = k := by subst h hd; omega

theorem emb0_0 (t : Fin cfg0.N) (q : Fin 256) (k : Fin 3584) :
    ((cfg0.win 0).blk t).view.emb (ix2 q k) = (ix2 (rowOf t q) k : S1536x3584.Idx) :=
  idx_eq _ _ _ (row_val (win0_0.rect_emb_val t (ix2 q k) 0) (index_rows t).1.1)
    (col_val (win0_0.rect_emb_val t (ix2 q k) 1) (index_rows t).1.2)

theorem emb0_1 (t : Fin cfg0.N) (k : Fin 3584) :
    ((cfg0.win 1).blk t).view.emb (ix2 0 k) = (ix2 0 k : S1x3584.Idx) :=
  idx_eq _ _ _ (col_val (win0_1.rect_emb_val t (ix2 0 k) 0) (index_once t).1.1)
    (col_val (win0_1.rect_emb_val t (ix2 0 k) 1) (index_once t).1.2)

theorem emb0_2 (t : Fin cfg0.N) (q : Fin 256) (k : Fin 3584) :
    ((cfg0.win 2).blk t).view.emb (ix2 q k) = (ix2 (rowOf t q) k : S1536x3584.Idx) :=
  idx_eq _ _ _ (row_val (win0_2.rect_emb_val t (ix2 q k) 0) (index_rows t).2.1.1)
    (col_val (win0_2.rect_emb_val t (ix2 q k) 1) (index_rows t).2.1.2)

theorem emb0_3 (t : Fin cfg0.N) (q : Fin 256) (k : Fin 3584) :
    ((cfg0.win 3).blk t).view.emb (ix2 q k) = (ix2 (rowOf t q) k : S1536x3584.Idx) :=
  idx_eq _ _ _ (row_val (win0_3.rect_emb_val t (ix2 q k) 0) (index_rows t).2.2.1.1)
    (col_val (win0_3.rect_emb_val t (ix2 q k) 1) (index_rows t).2.2.1.2)

theorem emb0_4 (t : Fin cfg0.N) (q : Fin 256) (k : Fin 3584) :
    ((cfg0.win 4).blk t).view.emb (ix2 q k) = (ix2 (rowOf t q) k : S1536x3584.Idx) :=
  idx_eq _ _ _ (row_val (win0_4.rect_emb_val t (ix2 q k) 0) (index_rows t).2.2.2.1.1)
    (col_val (win0_4.rect_emb_val t (ix2 q k) 1) (index_rows t).2.2.2.1.2)

theorem emb0_5 (t : Fin cfg0.N) (q : Fin 256) :
    ((cfg0.win 5).blk t).view.emb (ix2 q 0) = (ix2 (rowOf t q) 0 : S1536x1.Idx) :=
  idx_eq _ _ _ (row_val (win0_5.rect_emb_val t (ix2 q 0) 0) (index_rows t).2.2.2.2.1)
    (col_val (win0_5.rect_emb_val t (ix2 q 0) 1) (index_rows t).2.2.2.2.2)

theorem emb0_6 (t : Fin cfg0.N) (k : Fin 3584) :
    ((cfg0.win 6).blk t).view.emb (ix2 0 k) = (ix2 0 k : S1x3584.Idx) :=
  idx_eq _ _ _ (col_val (win0_6.rect_emb_val t (ix2 0 k) 0) (index_once t).2.1.1)
    (col_val (win0_6.rect_emb_val t (ix2 0 k) 1) (index_once t).2.1.2)

theorem emb0_7 (t : Fin cfg0.N) (k : Fin 3584) :
    ((cfg0.win 7).blk t).view.emb (ix2 0 k) = (ix2 0 k : S1x3584.Idx) :=
  idx_eq _ _ _ (col_val (win0_7.rect_emb_val t (ix2 0 k) 0) (index_once t).2.2.1)
    (col_val (win0_7.rect_emb_val t (ix2 0 k) 1) (index_once t).2.2.2)

/-- The matrices and the scales are written back at every point; -/
theorem flush_rows : ∀ t : Fin cfg0.N, (cfg0.win 2).flush t = true ∧ (cfg0.win 3).flush t = true
    ∧ (cfg0.win 4).flush t = true ∧ (cfg0.win 5).flush t = true := by decide

/-- the one-row arrays at the last point only. -/
theorem flush_once : ∀ t : Fin cfg0.N, ((cfg0.win 6).flush t = true ↔ t.val = 5) ∧ ((cfg0.win 7).flush t = true ↔ t.val = 5) := by
  decide

end Cert.KernelIdeal.Own
-- ==== Proof.Spec.lean ====
module

public import Idealize.ShloMosaic.Lib.Pointwise

@[expose] public section

/-! The linear layer with outlier columns, entry by entry, on extended reals: the words both programs' values are put
in. -/

noncomputable section

namespace Cert.Spec

open Idealize.ShloMosaic

/-- Whether a column's mask marks it as an outlier. -/
def outlier (m : BitVec 32) : BitVec 1 := IntOp.cmpi .eq m 1#32

/-- An entry of the matrix to quantise: outlier columns are zero. -/
def regular (m : BitVec 32) (x : EReal) : EReal := Scalar.select (outlier m) 0 x

/-- An entry of the matrix kept as it is: all other columns are zero. -/
def kept (m : BitVec 32) (x : EReal) : EReal := Scalar.select (outlier m) x 0

/-- The greatest magnitude in a family. -/
def top {ι : Type} [Fintype ι] (f : ι → EReal) : EReal :=
  (Finset.univ : Finset ι).fold max (Ideal.ofBits .f32 0xFF800000#32) fun k => FloatOps.absf (F := Ideal) (φ := .f32) (f k)

/-- The scale of a row whose greatest magnitude is `a`. -/
def scale (a : EReal) : EReal := if a = 0 then 1 else Ideal.div a (Ideal.ofBits .f32 0x42FE0000#32)

/-- An entry divided by its scale, rounded and clipped to [-127, 127]. -/
def clipped (v s : EReal) : EReal :=
  min (Ideal.ofBits .f32 0x42FE0000#32) (max (Ideal.ofBits .f32 0xC2FE0000#32)
    (Ideal.liftRound Ideal.roundHalfEven (Ideal.div v s)))

/-- The code of an entry. -/
def code (v s : EReal) : BitVec 8 := FloatOps.fptosi (F := Ideal) (φ := .f32) 8 (clipped v s)

/-- The next step's mask of a column whose greatest magnitude is `a`. -/
def flag (a : EReal) : BitVec 32 := (FloatOps.cmpf (F := Ideal) (φ := .f32) .ogt a (Ideal.ofBits .f32 0x40C00000#32)).setWidth 32

/-- An entry of the product: the codes' part under the row's scale, the outliers' part, both under the column's scale. -/
def mixed {n : Nat} (c o : Fin n → EReal) (w : Fin n → BitVec 8) (s ws : EReal) : EReal :=
  ((∑ k, c k * FloatOps.sitofp (F := Ideal) .bf16 (w k)) * s + ∑ k, o k * FloatOps.sitofp (F := Ideal) .bf16 (w k)) * ws

end Cert.Spec
-- ==== Proof.KernelEntries.lean ====
module

public import proofs.«01_k».proof.Proof.Spec
public import proofs.«01_k».proof.Proof.Gen.KernelIdeal.Skeleton

@[expose] public section

/-! The kernel's stored values, read at an entry. -/

noncomputable section

namespace Cert.KernelIdeal.Own

open Idealize.ShloMosaic Cert.KernelIdeal Cert.KernelIdeal.Gen Cert.Spec

theorem regular_apply (x : Vec Ideal S256x3584 .bf16) (m : Vec Ideal S1x3584 .i32) (q : Fin 256) (k : Fin 3584) :
    k0_pay10 (F := Ideal) x m (ix2 q k) = regular (m (ix2 0 k)) (x (ix2 q k)) := by
  pointwise [k0_pay10, k0_pay6, k0_pay5, regular, outlier]

theorem kept_apply (x : Vec Ideal S256x3584 .bf16) (m : Vec Ideal S1x3584 .i32) (q : Fin 256) (k : Fin 3584) :
    k0_pay4 (F := Ideal) (k0_pay5 x) (k0_pay6 (F := Ideal) m) (ix2 q k) = kept (m (ix2 0 k)) (x (ix2 q k)) := by
  pointwise [k0_pay4, k0_pay6, k0_pay5, kept, outlier]

theorem scale_apply (x : Vec Ideal S256x3584 .bf16) (m : Vec Ideal S1x3584 .i32) (q : Fin 256) :
    k0_pay11 (F := Ideal) x m (ix2 q 0) = scale (top fun k : Fin 3584 => k0_pay10 (F := Ideal) x m (ix2 q k)) := by
  pointwise [k0_pay11, scale, top]

theorem clipped_apply (v : FVec Ideal S256x3584 .f32) (s : FVec Ideal S256x1 .f32) (q : Fin 256) (k : Fin 3584) :
    k0_pay3 (F := Ideal) v s (ix2 q k) = clipped (v (ix2 q k)) (s (ix2 q 0)) := by
  pointwise [k0_pay3, k0_pay1, clipped]

theorem code_apply (v : FVec Ideal S256x3584 .f32) (s : FVec Ideal S256x1 .f32) (q : Fin 256) (k : Fin 3584) :
    k0_pay2 (F := Ideal) v s (ix2 q k) = code (v (ix2 q k)) (s (ix2 q 0)) := by
  pointwise [k0_pay2, k0_pay1, clipped, code]

theorem colmax_apply (x : Vec Ideal S256x3584 .bf16) (k : Fin 3584) :
    k0_pay7 (F := Ideal) x (ix2 0 k) = top fun q : Fin 256 => x (ix2 q k) := by
  pointwise [k0_pay7, k0_pay5, top]

theorem colmax_later_apply (x : Vec Ideal S256x3584 .bf16) (p : FVec Ideal S1x3584 .f32) (k : Fin 3584) :
    k0_pay8 (F := Ideal) x p (ix2 0 k) = max (p (ix2 0 k)) (k0_pay7 (F := Ideal) x (ix2 0 k)) := by
  pointwise [k0_pay8]

theorem flag_apply (p : FVec Ideal S1x3584 .f32) (k : Fin 3584) :
    k0_pay9 (F := Ideal) p (ix2 0 k) = flag (p (ix2 0 k)) := by
  pointwise [k0_pay9, flag]

theorem mixed_apply (w : Vec Ideal S512x3584 .i8) (c o : Vec Ideal S768x3584 .bf16) (s : Vec Ideal S768x1 .f32)
    (ws : Vec Ideal S1x512 .f32) (r : Fin 768) (l : Fin 512) :
    k1_pay1 (F := Ideal) w c o s ws (ix2 r l)
      = mixed (fun k => c (ix2 r k)) (fun k => o (ix2 r k)) (fun k => w (ix2 l k)) (s (ix2 r 0)) (ws (ix2 0 l)) := by
  pointwise [k1_pay1, mixed]

end Cert.KernelIdeal.Own
-- ==== Proof.QuantiseArrays.lean ====
module

public import proofs.«01_k».proof.Proof.QuantiseBlocks
public import proofs.«01_k».proof.Proof.KernelEntries

@[expose] public section

/-! The six arrays the quantising region leaves, entry by entry, from the matrix and the mask it is entered with. -/

noncomputable section

namespace Cert.KernelIdeal.Own

open Idealize.ShloMosaic Idealize.ShloMosaic.TcCoe Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The matrix, -/
abbrev mat (c : Dev nD) : S1536x3584.Idx → EReal := V c main_v0
/-- the mask, -/
abbrev msk (c : Dev nD) : S1x3584.Idx → BitVec 32 := V c main_v1
/-- an entry of the matrix to quantise, -/
def regularAt (c : Dev nD) (r : Fin 1536) (k : Fin 3584) : EReal := regular (msk V c (ix2 0 k)) (mat V c (ix2 r k))
/-- and a row's scale. -/
def scaleAt (c : Dev nD) (r : Fin 1536) : EReal := scale (top fun k => regularAt V c r k)

theorem block_mat (c : Dev nD) (t : Fin cfg0.N) (q : Fin 256) (k : Fin 3584) :
    (iblk0 V c 0 t : S256x3584.Idx → EReal) (ix2 q k) = mat V c (ix2 (rowOf t q) k) :=
  congrArg (mat V c) (emb0_0 t q k)

theorem block_msk (c : Dev nD) (t : Fin cfg0.N) (k : Fin 3584) :
    (iblk0 V c 1 t : S1x3584.Idx → BitVec 32) (ix2 0 k) = msk V c (ix2 0 k) :=
  congrArg (msk V c) (emb0_1 t k)

theorem block_regular (c : Dev nD) (t : Fin cfg0.N) (q : Fin 256) (k : Fin 3584) :
    k0_pay10 (F := Ideal) (iblk0 V c 0 t) (iblk0 V c 1 t) (ix2 q k) = regularAt V c (rowOf t q) k := by
  rw [regular_apply, block_mat, block_msk]; rfl

theorem block_scale (c : Dev nD) (t : Fin cfg0.N) (q : Fin 256) :
    k0_pay11 (F := Ideal) (iblk0 V c 0 t) (iblk0 V c 1 t) (ix2 q 0) = scaleAt V c (rowOf t q) := by
  rw [scale_apply]
  exact congrArg scale (congrArg top (funext fun k => block_regular V c t q k))

theorem left_colmax {F : FTy → Type} [FloatOps F] (x : Vec F S256x3584 .bf16) (m : Vec F S1x3584 .i32) (cm : Vec F S1x3584 .f32) :
    (left x m cm).2.2.2.2.1 = cm := rfl

theorem left_scale {F : FTy → Type} [FloatOps F] (x : Vec F S256x3584 .bf16) (m : Vec F S1x3584 .i32) (cm : Vec F S1x3584 .f32) :
    (left x m cm).2.2.2.1 = k0_pay11 x m := rfl

/-- At every point the outputs are those of its own rows, over some column maxima. -/
theorem outs_eq (c : Dev nD) (t : Fin cfg0.N) :
    outsAt0 V c t.val t.isLt = left (iblk0 V c 0 t) (iblk0 V c 1 t) (outsAt0 V c t.val t.isLt).2.2.2.2.1 := by
  by_cases h0 : t.val % 6 = 0
  · have h1 : ¬1 ≤ t.val := by have : t.val < 6 := t.isLt; omega
    rw [outsAt0_first V c t h0 h1, left_colmax]
  · have h1 : 1 ≤ t.val := by omega
    rw [outsAt0_later V c t h0 h1, left_colmax]

/-- Every index of a matrix lies in some row block. -/
theorem exists_row_idx {n : Nat} (i : (⟨2, ![1536, n]⟩ : Shape).Idx) :
    ∃ (b : Fin 6) (q : Fin 256) (k : Fin n), ix2 (rowOf b q) k = i := by
  obtain ⟨b, q, h⟩ := exists_rowOf (i 0)
  exact ⟨b, q, i 1, (congrArg (fun r => ix2 r (i 1)) h).trans (eq_ix2 i).symm⟩

/-- The quotients. -/
theorem array_clipped (c : Dev nD) : (dat0 V c).arrAt 2 cfg0.N
    = (fun i => clipped (regularAt V c (i 0) (i 1)) (scaleAt V c (i 0)) : S1536x3584.Idx → EReal) := by
  refine (dat0 V c).arrAt_eq_of_cover 2 _ (fun t _ => ?_) (fun i => ?_)
  · show (cfg0.win 2).cut (grid0.coords t) ((dat0 V c).after 2 t) = _
    rw [after0_2, outs_eq]
    funext y
    obtain ⟨q, k, rfl⟩ : ∃ (q : Fin 256) (k : Fin 3584), y = ix2 q k := ⟨y 0, y 1, eq_ix2 y⟩
    refine (clipped_apply _ _ q k).trans ?_
    rw [block_regular, block_scale, View.read_apply, emb0_2]
    rfl
  · obtain ⟨b, q, k, rfl⟩ := exists_row_idx i
    exact ⟨b, (flush_rows b).1, emb0_2 b q k ▸ View.emb_mem_set _ _⟩

/-- The outlier columns. -/
theorem array_kept (c : Dev nD) : (dat0 V c).arrAt 3 cfg0.N
    = (fun i => kept (msk V c (ix2 0 (i 1))) (mat V c i) : S1536x3584.Idx → EReal) := by
  refine (dat0 V c).arrAt_eq_of_cover 3 _ (fun t _ => ?_) (fun i => ?_)
  · show (cfg0.win 3).cut (grid0.coords t) ((dat0 V c).after 3 t) = _
    rw [after0_3, outs_eq]
    funext y
    obtain ⟨q, k, rfl⟩ : ∃ (q : Fin 256) (k : Fin 3584), y = ix2 q k := ⟨y 0, y 1, eq_ix2 y⟩
    refine (kept_apply _ _ q k).trans ?_
    rw [block_mat, block_msk, View.read_apply, emb0_3]
    rfl
  · obtain ⟨b, q, k, rfl⟩ := exists_row_idx i
    exact ⟨b, (flush_rows b).2.1, emb0_3 b q k ▸ View.emb_mem_set _ _⟩

/-- The codes. -/
theorem array_code (c : Dev nD) : (dat0 V c).arrAt 4 cfg0.N
    = (fun i => code (regularAt V c (i 0) (i 1)) (scaleAt V c (i 0)) : S1536x3584.Idx → BitVec 8) := by
  refine (dat0 V c).arrAt_eq_of_cover 4 _ (fun t _ => ?_) (fun i => ?_)
  · show (cfg0.win 4).cut (grid0.coords t) ((dat0 V c).after 4 t) = _
    rw [after0_4, outs_eq]
    funext y
    obtain ⟨q, k, rfl⟩ : ∃ (q : Fin 256) (k : Fin 3584), y = ix2 q k := ⟨y 0, y 1, eq_ix2 y⟩
    refine (code_apply _ _ q k).trans ?_
    rw [block_regular, block_scale, View.read_apply, emb0_4]
    rfl
  · obtain ⟨b, q, k, rfl⟩ := exists_row_idx i
    exact ⟨b, (flush_rows b).2.2.1, emb0_4 b q k ▸ View.emb_mem_set _ _⟩

/-- The row scales. -/
theorem array_scale (c : Dev nD) : (dat0 V c).arrAt 5 cfg0.N = (fun i => scaleAt V c (i 0) : S1536x1.Idx → EReal) := by
  refine (dat0 V c).arrAt_eq_of_cover 5 _ (fun t _ => ?_) (fun i => ?_)
  · show (cfg0.win 5).cut (grid0.coords t) ((dat0 V c).after 5 t) = _
    rw [after0_5, outs_eq, left_scale]
    funext y
    obtain ⟨q, k, rfl⟩ : ∃ (q : Fin 256) (k : Fin 1), y = ix2 q k := ⟨y 0, y 1, eq_ix2 y⟩
    obtain rfl : k = 0 := Subsingleton.elim _ _
    refine Eq.trans (b := k0_pay11 (F := Ideal) (iblk0 V c 0 t) (iblk0 V c 1 t) (ix2 q 0)) rfl ?_
    rw [block_scale, View.read_apply, emb0_5]
    rfl
  · obtain ⟨b, q, k, rfl⟩ := exists_row_idx i
    obtain rfl : k = 0 := Subsingleton.elim _ _
    exact ⟨b, (flush_rows b).2.2.2, emb0_5 b q ▸ View.emb_mem_set _ _⟩

/-- What bounds a block's column maximum. -/
theorem top_le {ι : Type} [Fintype ι] (f : ι → EReal) (y : EReal) :
    top f ≤ y ↔ Ideal.ofBits .f32 0xFF800000#32 ≤ y ∧ ∀ k, FloatOps.absf (F := Ideal) (φ := .f32) (f k) ≤ y := by
  unfold top
  rw [Finset.fold_max_le]
  simp only [Finset.mem_univ, true_implies]

/-- After point `n` the column maxima are those of the first `n + 1` row blocks. -/
theorem colmax_le (c : Dev nD) (k : Fin 3584) (y : EReal) : ∀ (n : Nat) (hn : n < cfg0.N),
    ((outsAt0 V c n hn).2.2.2.2.1 : S1x3584.Idx → EReal) (ix2 0 k) ≤ y ↔ Ideal.ofBits .f32 0xFF800000#32 ≤ y
      ∧ ∀ b : Fin 6, b.val ≤ n → ∀ q, FloatOps.absf (F := Ideal) (φ := .f32) (mat V c (ix2 (rowOf b q) k)) ≤ y := by
  have own : ∀ t : Fin cfg0.N, k0_pay7 (F := Ideal) (iblk0 V c 0 t) (ix2 0 k) ≤ y ↔ Ideal.ofBits .f32 0xFF800000#32 ≤ y
      ∧ ∀ q, FloatOps.absf (F := Ideal) (φ := .f32) (mat V c (ix2 (rowOf t q) k)) ≤ y := fun t => by
    rw [colmax_apply, top_le]
    simp only [block_mat]
  intro n
  induction n with
  | zero =>
    intro hn
    rw [outsAt0_first V c ⟨0, hn⟩ rfl (by show ¬1 ≤ 0; omega), left_colmax, own]
    refine and_congr_right fun _ => ⟨fun h b hb q => ?_, fun h q => h _ (le_refl _) q⟩
    obtain rfl : b = ⟨0, hn⟩ := Fin.ext (by show b.val = 0; omega)
    exact h q
  | succ n ih =>
    intro hn
    have hn6 : n + 1 < 6 := hn
    rw [outsAt0_later V c ⟨n + 1, hn⟩ (by show ¬(n + 1) % 6 = 0; omega) (by show 1 ≤ n + 1; omega), left_colmax,
      colmax_later_apply, max_le_iff, own]
    refine (and_congr_left fun _ => ih (by omega)).trans ?_
    constructor
    · rintro ⟨⟨h0, h⟩, -, h'⟩
      refine ⟨h0, fun b hb q => ?_⟩
      rcases Nat.lt_or_ge b.val (n + 1) with hb' | hb'
      · exact h b (by omega) q
      · obtain rfl : b = ⟨n + 1, hn⟩ := Fin.ext (by show b.val = n + 1; omega)
        exact h' q
    · rintro ⟨h0, h⟩
      exact ⟨⟨h0, fun b hb q => h b (by omega) q⟩, h0, fun q => h ⟨n + 1, hn⟩ (le_refl _) q⟩

/-- A column's greatest magnitude. -/
def colmaxAt (c : Dev nD) (k : Fin 3584) : EReal := top fun p : Fin 6 × Fin 256 => mat V c (ix2 (rowOf p.1 p.2) k)

theorem colmax_last (c : Dev nD) (t : Fin cfg0.N) (ht : t.val = 5) (k : Fin 3584) :
    ((outsAt0 V c t.val t.isLt).2.2.2.2.1 : S1x3584.Idx → EReal) (ix2 0 k) = colmaxAt V c k := by
  refine eq_of_forall_ge_iff fun y => (colmax_le V c k y _ _).trans ?_
  unfold colmaxAt
  rw [top_le]
  refine and_congr_right fun _ => ⟨fun h p => h p.1 (by have := p.1.isLt; omega) p.2, fun h b _ q => h (b, q)⟩

/-- The column maxima. -/
theorem array_colmax (c : Dev nD) : (dat0 V c).arrAt 6 cfg0.N = (fun i => colmaxAt V c (i 1) : S1x3584.Idx → EReal) := by
  refine (dat0 V c).arrAt_eq_of_cover 6 _ (fun t ht => ?_) (fun i => ?_)
  · show (cfg0.win 6).cut (grid0.coords t) ((dat0 V c).after 6 t) = _
    rw [after0_6]
    funext y
    obtain ⟨q, k, rfl⟩ : ∃ (q : Fin 1) (k : Fin 3584), y = ix2 q k := ⟨y 0, y 1, eq_ix2 y⟩
    obtain rfl : q = 0 := Subsingleton.elim _ _
    refine (colmax_last V c t ((flush_once t).1.mp ht) k).trans ?_
    rw [View.read_apply, emb0_6]
    rfl
  · obtain ⟨q, k, rfl⟩ : ∃ (q : Fin 1) (k : Fin 3584), i = ix2 q k := ⟨i 0, i 1, eq_ix2 i⟩
    obtain rfl : q = 0 := Subsingleton.elim _ _
    exact ⟨⟨5, by decide⟩, (flush_once _).1.mpr rfl, emb0_6 ⟨5, by decide⟩ k ▸ View.emb_mem_set _ _⟩

/-- The next step's mask. -/
theorem array_flag (c : Dev nD) : (dat0 V c).arrAt 7 cfg0.N
    = (fun i => flag (colmaxAt V c (i 1)) : S1x3584.Idx → BitVec 32) := by
  refine (dat0 V c).arrAt_eq_of_cover 7 _ (fun t ht => ?_) (fun i => ?_)
  · show (cfg0.win 7).cut (grid0.coords t) ((dat0 V c).after 7 t) = _
    rw [after0_7, outs_eq]
    funext y
    obtain ⟨q, k, rfl⟩ : ∃ (q : Fin 1) (k : Fin 3584), y = ix2 q k := ⟨y 0, y 1, eq_ix2 y⟩
    obtain rfl : q = 0 := Subsingleton.elim _ _
    refine (flag_apply _ k).trans ?_
    rw [colmax_last V c t ((flush_once t).2.mp ht) k, View.read_apply, emb0_7]
    rfl
  · obtain ⟨q, k, rfl⟩ : ∃ (q : Fin 1) (k : Fin 3584), i = ix2 q k := ⟨i 0, i 1, eq_ix2 i⟩
    obtain rfl : q = 0 := Subsingleton.elim _ _
    exact ⟨⟨5, by decide⟩, (flush_once _).2.mpr rfl, emb0_7 ⟨5, by decide⟩ k ▸ View.emb_mem_set _ _⟩

end Cert.KernelIdeal.Own
-- ==== Proof.MatmulArray.lean ====
module

public import proofs.«01_k».proof.Proof.KernelIdealMatmul
public import proofs.«01_k».proof.Proof.QuantiseBlocks
public import proofs.«01_k».proof.Proof.KernelEntries

@[expose] public section

/-! The array the matrix product leaves, entry by entry, from the arrays it is entered with. Point `t` works on row half
`t % 2` and on column block `t / 2`. -/

noncomputable section

namespace Cert.KernelIdeal.Own

open Idealize.ShloMosaic Idealize.ShloMosaic.TcCoe Idealize.SL.Sem
open Idealize.ShloMosaic.Pipeline (Dat Cfg Window)
open Cert.KernelIdeal Cert.KernelIdeal.Gen Cert.Spec

/-- Row `r` of row half `i`, -/
def halfRow (i : Fin 2) (r : Fin 768) : Fin 1536 := ⟨768 * i.val + r.val, by omega⟩
/-- column `l` of column block `j`, -/
def blockCol (j : Fin 37) (l : Fin 512) : Fin 18944 := ⟨512 * j.val + l.val, by omega⟩
/-- and the point's row half and column block. -/
def half (t : Fin cfg1.N) : Fin 2 := ⟨t.val % 2, by omega⟩
def colBlock (t : Fin cfg1.N) : Fin 37 := ⟨t.val / 2, by have : t.val < 74 := t.isLt; omega⟩

theorem index_half : ∀ t : Fin cfg1.N, (win1_0.index t 0 = t.val % 2 ∧ win1_0.index t 1 = 0)
    ∧ (win1_1.index t 0 = t.val % 2 ∧ win1_1.index t 1 = 0) ∧ (win1_2.index t 0 = t.val % 2 ∧ win1_2.index t 1 = 0) := by
  decide +kernel

theorem index_col : ∀ t : Fin cfg1.N, (win1_3.index t 0 = t.val / 2 ∧ win1_3.index t 1 = 0)
    ∧ (win1_4.index t 0 = 0 ∧ win1_4.index t 1 = t.val / 2) := by
  decide +kernel

theorem index_out : ∀ t : Fin cfg1.N, win1_5.index t 0 = t.val % 2 ∧ win1_5.index t 1 = t.val / 2 := by
  decide +kernel

theorem flush_out : ∀ t : Fin cfg1.N, (cfg1.win 5).flush t = true := by decide +kernel

/-- A block's element lies at the block's index times its size, plus its own place. -/
theorem at_val {d n m k e : Nat} (h : n = d * m + k) (hd : d = e) : n = m * e + k := by
  subst h hd; rw [Nat.mul_comm]

theorem emb1_0 (t : Fin cfg1.N) (r : Fin 768) (k : Fin 3584) :
    ((cfg1.win 0).blk t).view.emb (ix2 r k) = (ix2 (halfRow (half t) r) k : S1536x3584.Idx) :=
  idx_eq _ _ _ (at_val (win1_0.rect_emb_val t (ix2 r k) 0) (index_half t).1.1)
    (col_val (win1_0.rect_emb_val t (ix2 r k) 1) (index_half t).1.2)

theorem emb1_1 (t : Fin cfg1.N) (r : Fin 768) (k : Fin 3584) :
    ((cfg1.win 1).blk t).view.emb (ix2 r k) = (ix2 (halfRow (half t) r) k : S1536x3584.Idx) :=
  idx_eq _ _ _ (at_val (win1_1.rect_emb_val t (ix2 r k) 0) (index_half t).2.1.1)
    (col_val (win1_1.rect_emb_val t (ix2 r k) 1) (index_half t).2.1.2)

theorem emb1_2 (t : Fin cfg1.N) (r : Fin 768) :
    ((cfg1.win 2).blk t).view.emb (ix2 r 0) = (ix2 (halfRow (half t) r) 0 : S1536x1.Idx) :=
  idx_eq _ _ _ (at_val (win1_2.rect_emb_val t (ix2 r 0) 0) (index_half t).2.2.1)
    (col_val (win1_2.rect_emb_val t (ix2 r 0) 1) (index_half t).2.2.2)

theorem emb1_3 (t : Fin cfg1.N) (l : Fin 512) (k : Fin 3584) :
    ((cfg1.win 3).blk t).view.emb (ix2 l k) = (ix2 (blockCol (colBlock t) l) k : S18944x3584.Idx) :=
  idx_eq _ _ _ (at_val (win1_3.rect_emb_val t (ix2 l k) 0) (index_col t).1.1)
    (col_val (win1_3.rect_emb_val t (ix2 l k) 1) (index_col t).1.2)

theorem emb1_4 (t : Fin cfg1.N) (l : Fin 512) :
    ((cfg1.win 4).blk t).view.emb (ix2 0 l) = (ix2 0 (blockCol (colBlock t) l) : S1x18944.Idx) :=
  idx_eq _ _ _ (col_val (win1_4.rect_emb_val t (ix2 0 l) 0) (index_col t).2.1)
    (at_val (win1_4.rect_emb_val t (ix2 0 l) 1) (index_col t).2.2)

theorem emb1_5 (t : Fin cfg1.N) (r : Fin 768) (l : Fin 512) :
    ((cfg1.win 5).blk t).view.emb (ix2 r l) = (ix2 (halfRow (half t) r) (blockCol (colBlock t) l) : S1536x18944.Idx) :=
  idx_eq _ _ _ (at_val (win1_5.rect_emb_val t (ix2 r l) 0) (index_out t).1)
    (at_val (win1_5.rect_emb_val t (ix2 r l) 1) (index_out t).2)

/-- Every index of the product lies in some point's block. -/
theorem exists_out_idx (i : S1536x18944.Idx) :
    ∃ (t : Fin cfg1.N) (r : Fin 768) (l : Fin 512), ix2 (halfRow (half t) r) (blockCol (colBlock t) l) = i := by
  have h0 : (i 0).val < 1536 := (i 0).isLt
  have h1 : (i 1).val < 18944 := (i 1).isLt
  refine ⟨⟨2 * ((i 1).val / 512) + (i 0).val / 768, by show _ < 74; omega⟩, ⟨(i 0).val % 768, by omega⟩,
    ⟨(i 1).val % 512, by omega⟩, (idx_eq i _ _ ?_ ?_).symm⟩
  · show (i 0).val = 768 * ((2 * ((i 1).val / 512) + (i 0).val / 768) % 2) + (i 0).val % 768
    omega
  · show (i 1).val = 512 * ((2 * ((i 1).val / 512) + (i 0).val / 768) / 2) + (i 1).val % 512
    omega

/-- The one store covers the block; the loads take the input blocks whole. -/
theorem out1_5_eq {F : FTy → Type} [FloatOps F] (x0 x1 : Vec F S768x3584 .bf16) (x2 : Vec F S768x1 .f32)
    (x3 : Vec F S512x3584 .i8) (x4 : Vec F S1x512 .f32) : out1_5 x0 x1 x2 x3 x4 = k1_pay1 x3 x0 x1 x2 x4 := by
  unfold out1_5
  rw [View.canon_unit_zero (S := S768x512) zeros, View.ld_unit_zero (S := S512x3584) zeros,
    View.ld_unit_zero (S := S768x3584) zeros, View.ld_unit_zero (S := S768x3584) zeros,
    View.ld_unit_zero (S := S768x1) zeros, View.ld_unit_zero (S := S1x512) zeros]

variable (V : (c : Dev nD) → (b : Ref sig .tc) → Buf (Elt Ideal) ((c : Thread nD τ).loc b))

/-- An entry of the product. -/
def productAt (c : Dev nD) (r : Fin 1536) (l : Fin 18944) : EReal :=
  mixed (fun k : Fin 3584 => (V c main_v2_0 : S1536x3584.Idx → EReal) (ix2 r k))
    (fun k => (V c main_v2_1 : S1536x3584.Idx → EReal) (ix2 r k))
    (fun k => (V c main_arg2 : S18944x3584.Idx → BitVec 8) (ix2 l k))
    ((V c main_v2_3 : S1536x1.Idx → EReal) (ix2 r 0)) ((V c main_v3 : S1x18944.Idx → EReal) (ix2 0 l))

theorem block_product (c : Dev nD) (t : Fin cfg1.N) (r : Fin 768) (l : Fin 512) :
    k1_pay1 (F := Ideal) (iblk1 V c 3 t) (iblk1 V c 0 t) (iblk1 V c 1 t) (iblk1 V c 2 t) (iblk1 V c 4 t) (ix2 r l)
      = productAt V c (halfRow (half t) r) (blockCol (colBlock t) l) := by
  rw [mixed_apply]
  unfold productAt
  have e0 : ∀ k, (iblk1 V c 0 t : S768x3584.Idx → EReal) (ix2 r k) = (V c main_v2_0 : S1536x3584.Idx → EReal) (ix2 (halfRow (half t) r) k) :=
    fun k => congrArg (V c main_v2_0 : S1536x3584.Idx → EReal) (emb1_0 t r k)
  have e1 : ∀ k, (iblk1 V c 1 t : S768x3584.Idx → EReal) (ix2 r k) = (V c main_v2_1 : S1536x3584.Idx → EReal) (ix2 (halfRow (half t) r) k) :=
    fun k => congrArg (V c main_v2_1 : S1536x3584.Idx → EReal) (emb1_1 t r k)
  have e2 : (iblk1 V c 2 t : S768x1.Idx → EReal) (ix2 r 0) = (V c main_v2_3 : S1536x1.Idx → EReal) (ix2 (halfRow (half t) r) 0) :=
    congrArg (V c main_v2_3 : S1536x1.Idx → EReal) (emb1_2 t r)
  have e3 : ∀ k, (iblk1 V c 3 t : S512x3584.Idx → BitVec 8) (ix2 l k) = (V c main_arg2 : S18944x3584.Idx → BitVec 8) (ix2 (blockCol (colBlock t) l) k) :=
    fun k => congrArg (V c main_arg2 : S18944x3584.Idx → BitVec 8) (emb1_3 t l k)
  have e4 : (iblk1 V c 4 t : S1x512.Idx → EReal) (ix2 0 l) = (V c main_v3 : S1x18944.Idx → EReal) (ix2 0 (blockCol (colBlock t) l)) :=
    congrArg (V c main_v3 : S1x18944.Idx → EReal) (emb1_4 t l)
  rw [funext e0, funext e1, e2, funext e3, e4]

/-- The product. -/
theorem array_product (c : Dev nD) : (dat1 V c).arrAt 5 cfg1.N
    = (fun i => productAt V c (i 0) (i 1) : S1536x18944.Idx → EReal) := by
  refine (dat1 V c).arrAt_eq_of_cover 5 _ (fun t _ => ?_) (fun i => ?_)
  · show (cfg1.win 5).cut (grid1.coords t) ((dat1 V c).after 5 t) = _
    rw [after1_5, out1_5_eq]
    funext y
    obtain ⟨r, l, rfl⟩ : ∃ (r : Fin 768) (l : Fin 512), y = ix2 r l := ⟨y 0, y 1, eq_ix2 y⟩
    refine (block_product V c t r l).trans ?_
    rw [View.read_apply, emb1_5]
    rfl
  · obtain ⟨t, r, l, rfl⟩ := exists_out_idx i
    exact ⟨t, flush_out t, emb1_5 t r l ▸ View.emb_mem_set _ _⟩

end Cert.KernelIdeal.Own
-- ==== Proof.KernelArrays.lean ====
module

public import proofs.«01_k».proof.Proof.KernelIdealRun
public import proofs.«01_k».proof.Proof.QuantiseArrays
public import proofs.«01_k».proof.Proof.MatmulArray

@[expose] public section

/-! The kernel's five results, entry by entry, from the arguments: the reshapes around the two regions are read at an
entry, and the regions' arrays in between. -/

noncomputable section

namespace Cert.KernelIdeal.Own

open Idealize.ShloMosaic Idealize.ShloMosaic.TcCoe Idealize.SL.Sem
open Idealize.ShloMosaic.Pipeline (Dat Cfg Window)
open Cert.KernelIdeal Cert.KernelIdeal.Gen Cert.Spec

/-! ## Reshapes read at an entry -/

section Reshapes
variable {α : Type}

theorem rows_of_batch {n : Nat} (x : (⟨3, ![6, 256, n]⟩ : Shape).Idx → α)
    (h : (⟨3, ![6, 256, n]⟩ : Shape).ShapeCasts ⟨2, ![1536, n]⟩) (b : Fin 6) (q : Fin 256) (k : Fin n) :
    shapeCast ⟨2, ![1536, n]⟩ x h (ix2 (rowOf b q) k) = x (ix3 b q k) := by
  refine shapeCast_apply _ _ _ _ ?_
  rw [Shape.rowMajor_val_two, Shape.rowMajor_val_three]
  show (b.val * 256 + q.val) * n + k.val = (256 * b.val + q.val) * n + k.val
  rw [Nat.mul_comm 256]

theorem batch_of_rows {n : Nat} (x : (⟨2, ![1536, n]⟩ : Shape).Idx → α)
    (h : (⟨2, ![1536, n]⟩ : Shape).ShapeCasts ⟨3, ![6, 256, n]⟩) (b : Fin 6) (q : Fin 256) (k : Fin n) :
    shapeCast ⟨3, ![6, 256, n]⟩ x h (ix3 b q k) = x (ix2 (rowOf b q) k) := by
  refine shapeCast_apply _ _ _ _ ?_
  rw [Shape.rowMajor_val_two, Shape.rowMajor_val_three]
  show (256 * b.val + q.val) * n + k.val = (b.val * 256 + q.val) * n + k.val
  rw [Nat.mul_comm 256]

theorem batch_of_column (x : (⟨2, ![1536, 1]⟩ : Shape).Idx → α)
    (h : (⟨2, ![1536, 1]⟩ : Shape).ShapeCasts ⟨2, ![6, 256]⟩) (b : Fin 6) (q : Fin 256) :
    shapeCast ⟨2, ![6, 256]⟩ x h (ix2 b q) = x (ix2 (rowOf b q) 0) := by
  refine shapeCast_apply _ _ _ _ ?_
  rw [Shape.rowMajor_val_two, Shape.rowMajor_val_two]
  show (256 * b.val + q.val) * 1 + 0 = b.val * 256 + q.val
  omega

theorem row_of_vector {n : Nat} (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) := by
  refine shapeCast_apply _ _ _ _ ?_
  rw [Shape.rowMajor_val_one, Shape.rowMajor_val_two]
  show k.val = 0 * n + k.val
  omega

theorem vector_of_row {n : Nat} (x : (⟨2, ![1, n]⟩ : Shape).Idx → α) (h : (⟨2, ![1, n]⟩ : Shape).ShapeCasts ⟨1, ![n]⟩) (k : Fin n) :
    shapeCast ⟨1, ![n]⟩ x h (ix1 k) = x (ix2 0 k) := by
  refine shapeCast_apply _ _ _ _ ?_
  rw [Shape.rowMajor_val_one, Shape.rowMajor_val_two]
  show 0 * n + k.val = k.val
  omega

end Reshapes

variable (m : (ℓ : Loc nD τ sig) → Buf (Elt Ideal) ℓ) (ρ : Dev nD → PrngReg)

/-- The arguments. -/
abbrev argX (c : Dev nD) : S6x256x3584.Idx → EReal := m ((c : Thread nD τ).loc main_arg0)
abbrev argM (c : Dev nD) : S3584.Idx → BitVec 32 := m ((c : Thread nD τ).loc main_arg1)
abbrev argW (c : Dev nD) : S18944x3584.Idx → BitVec 8 := m ((c : Thread nD τ).loc main_arg2)
abbrev argS (c : Dev nD) : S18944.Idx → EReal := m ((c : Thread nD τ).loc main_arg3)

/-! ## What the regions are entered with -/

theorem mat_apply (c : Dev nD) (b : Fin 6) (q : Fin 256) (k : Fin 3584) :
    mat (V1 m ρ) c (ix2 (rowOf b q) k) = argX m c (ix3 b q k) := by
  have e : mat (V1 m ρ) c = shapeCast S1536x3584 (argX m c) shapeCasts_S6x256x3584_S1536x3584 := by
    show StableHlo.after hostOps0 _ (Proc.devRef .tc main_v0) = _
    after_results
    rfl
  rw [e]
  exact rows_of_batch _ _ b q k

theorem msk_apply (c : Dev nD) (k : Fin 3584) : msk (V1 m ρ) c (ix2 0 k) = argM m c (ix1 k) := by
  have e : msk (V1 m ρ) c = shapeCast S1x3584 (argM m c) shapeCasts_S3584_S1x3584 := by
    show StableHlo.after hostOps0 _ (Proc.devRef .tc main_v1) = _
    after_results
    rfl
  rw [e]
  exact row_of_vector _ _ k

/-- The entries the codes, the scales and the column maxima are made of. -/
def regularOf (c : Dev nD) (b : Fin 6) (q : Fin 256) (k : Fin 3584) : EReal := regular (argM m c (ix1 k)) (argX m c (ix3 b q k))
def scaleOf (c : Dev nD) (b : Fin 6) (q : Fin 256) : EReal := scale (top fun k => regularOf m c b q k)
def colmaxOf (c : Dev nD) (k : Fin 3584) : EReal := top fun p : Fin 6 × Fin 256 => argX m c (ix3 p.1 p.2 k)

theorem regularAt_eq (c : Dev nD) (b : Fin 6) (q : Fin 256) (k : Fin 3584) :
    regularAt (V1 m ρ) c (rowOf b q) k = regularOf m c b q k := by
  unfold regularAt regularOf
  rw [mat_apply, msk_apply]

theorem scaleAt_eq (c : Dev nD) (b : Fin 6) (q : Fin 256) : scaleAt (V1 m ρ) c (rowOf b q) = scaleOf m c b q :=
  congrArg scale (congrArg top (funext fun k => regularAt_eq m ρ c b q k))

theorem colmaxAt_eq (c : Dev nD) (k : Fin 3584) : colmaxAt (V1 m ρ) c k = colmaxOf m c k :=
  congrArg top (funext fun p => mat_apply m ρ c p.1 p.2 k)

/-! ## What the matrix product is entered with -/

theorem quotients_apply (c : Dev nD) (b : Fin 6) (q : Fin 256) (k : Fin 3584) :
    (V3 m ρ c main_v2_0 : S1536x3584.Idx → EReal) (ix2 (rowOf b q) k) = clipped (regularOf m c b q k) (scaleOf m c b q) := by
  have e : V3 m ρ c main_v2_0 = (dat0 (V1 m ρ) c).arrAt 2 cfg0.N :=
    (W3_of m ρ c main_v2_0 (by decide)).trans (W2_arr m ρ c 2)
  rw [e, array_clipped, ← regularAt_eq m ρ, ← scaleAt_eq m ρ]
  rfl

theorem outliers_apply (c : Dev nD) (b : Fin 6) (q : Fin 256) (k : Fin 3584) :
    (V3 m ρ c main_v2_1 : S1536x3584.Idx → EReal) (ix2 (rowOf b q) k) = kept (argM m c (ix1 k)) (argX m c (ix3 b q k)) := by
  have e : V3 m ρ c main_v2_1 = (dat0 (V1 m ρ) c).arrAt 3 cfg0.N :=
    (W3_of m ρ c main_v2_1 (by decide)).trans (W2_arr m ρ c 3)
  rw [e, array_kept, ← mat_apply m ρ, ← msk_apply m ρ]
  rfl

theorem scales_apply (c : Dev nD) (b : Fin 6) (q : Fin 256) :
    (V3 m ρ c main_v2_3 : S1536x1.Idx → EReal) (ix2 (rowOf b q) 0) = scaleOf m c b q := by
  have e : V3 m ρ c main_v2_3 = (dat0 (V1 m ρ) c).arrAt 5 cfg0.N :=
    (W3_of m ρ c main_v2_3 (by decide)).trans (W2_arr m ρ c 5)
  rw [e, array_scale, ← scaleAt_eq m ρ]
  rfl

theorem weights_eq (c : Dev nD) : (V3 m ρ c main_arg2 : S18944x3584.Idx → BitVec 8) = argW m c :=
  W3_args m ρ c main_arg2 (by decide)

theorem colscales_apply (c : Dev nD) (l : Fin 18944) :
    (V3 m ρ c main_v3 : S1x18944.Idx → EReal) (ix2 0 l) = argS m c (ix1 l) := by
  have e : (V3 m ρ c main_v3 : S1x18944.Idx → EReal)
      = shapeCast S1x18944 (W2 m ρ c (Proc.devRef .tc main_arg3) : S18944.Idx → EReal) shapeCasts_S18944_S1x18944 := by
    show StableHlo.after hostOps1 _ (Proc.devRef .tc main_v3) = _
    after_results
    rfl
  rw [e, W2_args m ρ c main_arg3 (by decide)]
  exact row_of_vector _ _ l

theorem productAt_eq (c : Dev nD) (b : Fin 6) (q : Fin 256) (l : Fin 18944) :
    productAt (V3 m ρ) c (rowOf b q) l
      = mixed (fun k : Fin 3584 => clipped (regularOf m c b q k) (scaleOf m c b q))
          (fun k => kept (argM m c (ix1 k)) (argX m c (ix3 b q k))) (fun k => argW m c (ix2 l k)) (scaleOf m c b q)
          (argS m c (ix1 l)) := by
  unfold productAt
  rw [funext (quotients_apply m ρ c b q), funext (outliers_apply m ρ c b q), scales_apply, colscales_apply, weights_eq]

/-! ## The results -/

theorem result_product (c : Dev nD) (b : Fin 6) (q : Fin 256) (l : Fin 18944) :
    (W5 m ρ c (Proc.devRef .tc main_v5) : S6x256x18944.Idx → EReal) (ix3 b q l)
      = mixed (fun k : Fin 3584 => clipped (regularOf m c b q k) (scaleOf m c b q))
          (fun k => kept (argM m c (ix1 k)) (argX m c (ix3 b q k))) (fun k => argW m c (ix2 l k)) (scaleOf m c b q)
          (argS m c (ix1 l)) := by
  have e : (W5 m ρ c (Proc.devRef .tc main_v5) : S6x256x18944.Idx → EReal)
      = shapeCast S6x256x18944 (W4 m ρ c (Proc.devRef .tc main_v4) : S1536x18944.Idx → EReal) shapeCasts_S1536x18944_S6x256x18944 := by
    show StableHlo.after hostOps2 _ (Proc.devRef .tc main_v5) = _
    after_results
    rfl
  have a : W4 m ρ c (Proc.devRef .tc main_v4) = (dat1 (V3 m ρ) c).arrAt 5 cfg1.N := W4_arr m ρ c 5
  rw [e, a, array_product, ← productAt_eq m ρ]
  exact batch_of_rows _ _ b q l

theorem result_colmax (c : Dev nD) (k : Fin 3584) :
    (W5 m ρ c (Proc.devRef .tc main_v6) : S3584.Idx → EReal) (ix1 k) = colmaxOf m c k := by
  have e : (W5 m ρ c (Proc.devRef .tc main_v6) : S3584.Idx → EReal)
      = shapeCast S3584 (W4 m ρ c (Proc.devRef .tc main_v2_4) : S1x3584.Idx → EReal) shapeCasts_S1x3584_S3584 := by
    show StableHlo.after hostOps2 _ (Proc.devRef .tc main_v6) = _
    after_results
    rfl
  have a : W4 m ρ c (Proc.devRef .tc main_v2_4) = (dat0 (V1 m ρ) c).arrAt 6 cfg0.N :=
    (W4_of m ρ c main_v2_4 (by decide)).trans ((W3_of m ρ c main_v2_4 (by decide)).trans (W2_arr m ρ c 6))
  rw [e, a, array_colmax, ← colmaxAt_eq m ρ]
  exact vector_of_row _ _ k

theorem result_flag (c : Dev nD) (k : Fin 3584) :
    (W5 m ρ c (Proc.devRef .tc main_v7) : S3584.Idx → BitVec 32) (ix1 k) = flag (colmaxOf m c k) := by
  have e : (W5 m ρ c (Proc.devRef .tc main_v7) : S3584.Idx → BitVec 32)
      = shapeCast S3584 (W4 m ρ c (Proc.devRef .tc main_v2_5) : S1x3584.Idx → BitVec 32) shapeCasts_S1x3584_S3584 := by
    show StableHlo.after hostOps2 _ (Proc.devRef .tc main_v7) = _
    after_results
    rfl
  have a : W4 m ρ c (Proc.devRef .tc main_v2_5) = (dat0 (V1 m ρ) c).arrAt 7 cfg0.N :=
    (W4_of m ρ c main_v2_5 (by decide)).trans ((W3_of m ρ c main_v2_5 (by decide)).trans (W2_arr m ρ c 7))
  rw [e, a, array_flag, ← colmaxAt_eq m ρ]
  exact vector_of_row _ _ k

theorem result_code (c : Dev nD) (b : Fin 6) (q : Fin 256) (k : Fin 3584) :
    (W5 m ρ c (Proc.devRef .tc main_v8) : S6x256x3584.Idx → BitVec 8) (ix3 b q k)
      = code (regularOf m c b q k) (scaleOf m c b q) := by
  have e : (W5 m ρ c (Proc.devRef .tc main_v8) : S6x256x3584.Idx → BitVec 8)
      = shapeCast S6x256x3584 (W4 m ρ c (Proc.devRef .tc main_v2_2) : S1536x3584.Idx → BitVec 8) shapeCasts_S1536x3584_S6x256x3584 := by
    show StableHlo.after hostOps2 _ (Proc.devRef .tc main_v8) = _
    after_results
    rfl
  have a : W4 m ρ c (Proc.devRef .tc main_v2_2) = (dat0 (V1 m ρ) c).arrAt 4 cfg0.N :=
    (W4_of m ρ c main_v2_2 (by decide)).trans ((W3_of m ρ c main_v2_2 (by decide)).trans (W2_arr m ρ c 4))
  rw [e, a, array_code, ← regularAt_eq m ρ, ← scaleAt_eq m ρ]
  exact batch_of_rows _ _ b q k

theorem result_scale (c : Dev nD) (b : Fin 6) (q : Fin 256) :
    (W5 m ρ c (Proc.devRef .tc main_v9) : S6x256.Idx → EReal) (ix2 b q) = scaleOf m c b q := by
  have e : (W5 m ρ c (Proc.devRef .tc main_v9) : S6x256.Idx → EReal)
      = shapeCast S6x256 (W4 m ρ c (Proc.devRef .tc main_v2_3) : S1536x1.Idx → EReal) shapeCasts_S1536x1_S6x256 := by
    show StableHlo.after hostOps2 _ (Proc.devRef .tc main_v9) = _
    after_results
    rfl
  have a : W4 m ρ c (Proc.devRef .tc main_v2_3) = V3 m ρ c main_v2_3 := W4_of m ρ c main_v2_3 (by decide)
  rw [e, a, ← scales_apply m ρ]
  exact batch_of_column _ _ b q

end Cert.KernelIdeal.Own
-- ==== Proof.ReferenceEntries.lean ====
module

public import proofs.«01_k».proof.Proof.Spec
public import proofs.«01_k».proof.Proof.Gen.ReferenceIdeal.Skeleton

@[expose] public section

/-! The reference's results, read at an entry. -/

noncomputable section

namespace Cert.ReferenceIdeal.Own

open Idealize.ShloMosaic Cert.ReferenceIdeal Cert.ReferenceIdeal.Gen Cert.Spec

/-- A greatest-value reduction of a three-axis vector along its last axis. -/
theorem max_last {n0 n1 n2 : Nat} (x : FVec Ideal ⟨3, ![n0, n1, n2]⟩ .f32) (acc : BitVec 32)
    (h : (⟨3, ![n0, n1, n2]⟩ : Shape).Reduces [2] ⟨2, ![n0, n1]⟩) (hφ) (hacc) (b : Fin n0) (q : Fin n1) :
    multiReduction .maximumf [2] ⟨2, ![n0, n1]⟩ x acc h hφ hacc (ix2 b q)
      = (Finset.univ : Finset (Fin n2)).fold max (Ideal.ofBits .f32 acc) fun k => x (ix3 b q k) := by
  rw [multiReduction_maximumf_eq_fold]
  exact h.fold_fiber_r3_a2 (ix2 b q) max _ x

/-- A greatest-value reduction of a three-axis vector along its first two axes. -/
theorem max_first_two {n0 n1 n2 : Nat} (x : FVec Ideal ⟨3, ![n0, n1, n2]⟩ .f32) (acc : BitVec 32)
    (h : (⟨3, ![n0, n1, n2]⟩ : Shape).Reduces [0, 1] ⟨1, ![n2]⟩) (hφ) (hacc) (k : Fin n2) :
    multiReduction .maximumf [0, 1] ⟨1, ![n2]⟩ x acc h hφ hacc (ix1 k)
      = (Finset.univ : Finset (Fin n0 × Fin n1)).fold max (Ideal.ofBits .f32 acc) fun p => x (ix3 p.1 p.2 k) := by
  rw [multiReduction_maximumf_eq_fold]
  refine Finset.fold_filter_eq_fold_of_fiber max _ (fun p : Fin n0 × Fin n1 => ix3 p.1 p.2 k) ?_ ?_ _ x
  · exact fun p p' e => Prod.ext (congrFun e 0) (congrFun e 1)
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨p, rfl⟩
      funext b; apply Fin.ext
      match b with
      | ⟨0, _⟩ => rfl

theorem regular_apply (x : Vec Ideal S6x256x3584 .bf16) (m : Vec Ideal S3584 .i32) (b : Fin 6) (q : Fin 256) (k : Fin 3584) :
    k0_pay7 (F := Ideal) x m (ix3 b q k) = regular (m (ix1 k)) (x (ix3 b q k)) := by
  pointwise [k0_pay7, k0_pay5, k0_pay2, regular, outlier]

theorem colmax_apply (x : Vec Ideal S6x256x3584 .bf16) (k : Fin 3584) :
    k0_pay3 (F := Ideal) x (ix1 k) = top fun p : Fin 6 × Fin 256 => x (ix3 p.1 p.2 k) := by
  unfold k0_pay3
  exact max_first_two _ _ _ _ _ _

/-- The next step's mask, over column maxima left as a vector. -/
theorem flag_of (a : FVec Ideal S3584 .f32) (j : S3584.Idx) :
    extui 32 (cmpf .ogt a (broadcast S3584 (Scalar.ofBits .f32 0x40C00000#32))) natLt_1_32 j = flag (a j) := rfl

theorem flag_apply (x : Vec Ideal S6x256x3584 .bf16) (j : S3584.Idx) :
    k0_pay4 (F := Ideal) x j = flag (k0_pay3 (F := Ideal) x j) := by
  unfold k0_pay4
  exact flag_of _ _

/-- The scale, over a reduction left as a vector. -/
theorem scale_of (a : FVec Ideal S6x256 .f32) (j : S6x256.Idx) :
    select (cmpf .oeq a (broadcast S6x256 (Scalar.ofBits .f32 0x00000000#32)))
      (broadcast S6x256 (Scalar.ofBits .f32 0x3F800000#32))
      (divf a (broadcast S6x256 (Scalar.ofBits .f32 0x42FE0000#32))) j = scale (a j) := by
  pointwise [scale]

theorem scale_apply (x : Vec Ideal S6x256x3584 .bf16) (m : Vec Ideal S3584 .i32) (b : Fin 6) (q : Fin 256) :
    k0_pay8 (F := Ideal) x m (ix2 b q) = scale (top fun k : Fin 3584 => k0_pay7 (F := Ideal) x m (ix3 b q k)) := by
  refine (scale_of _ _).trans (congrArg scale ?_)
  exact max_last _ _ _ _ _ _ _

/-- Per-row values spread along a new last axis. -/
theorem spread_apply {n0 n1 n2 : Nat} {α : Type} (s : (⟨2, ![n0, n1]⟩ : Shape).Idx → α)
    (h : (⟨2, ![n0, n1]⟩ : Shape).ShapeCasts ⟨3, ![n0, n1, 1]⟩)
    (h' : (⟨3, ![n0, n1, 1]⟩ : Shape).Broadcasts ⟨3, ![n0, n1, n2]⟩) (b : Fin n0) (q : Fin n1) (k : Fin n2) :
    broadcastTo ⟨3, ![n0, n1, n2]⟩ (shapeCast ⟨3, ![n0, n1, 1]⟩ s h) h' (ix3 b q k) = s (ix2 b q) := by
  rw [broadcastTo_apply _ h' (ix3 b q k) (ix3 b q 0)]
  · refine shapeCast_apply _ _ _ _ ?_
    rw [Shape.rowMajor_val_two, Shape.rowMajor_val_three]
    simp
  · intro a
    match a with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => exact (if_pos rfl).symm

theorem code_of (v s : FVec Ideal S6x256x3584 .f32) (j : S6x256x3584.Idx) :
    fptosi 8 (minimumf (broadcast S6x256x3584 (Scalar.ofBits .f32 0x42FE0000#32))
      (maximumf (broadcast S6x256x3584 (Scalar.ofBits .f32 0xC2FE0000#32)) (roundeven (divf v s)))) j = code (v j) (s j) := by
  pointwise [code, clipped]

theorem code_apply (x : Vec Ideal S6x256x3584 .bf16) (m : Vec Ideal S3584 .i32) (b : Fin 6) (q : Fin 256) (k : Fin 3584) :
    k0_pay9 (F := Ideal) x m (ix3 b q k)
      = code (k0_pay7 (F := Ideal) x m (ix3 b q k)) (k0_pay8 (F := Ideal) x m (ix2 b q)) := by
  refine (code_of _ _ _).trans (congrArg (code _) ?_)
  exact spread_apply _ _ _ _ _ _

/-- The product, over its operands left as vectors. -/
theorem product_apply (v : FVec Ideal S6x256x3584 .bf16) (w : FVec Ideal S18944x3584 .bf16) (b : Fin 6) (q : Fin 256) (l : Fin 18944) :
    matmul dot_S6x256x3584_S18944x3584_S6x256x18944_2_1_01_0_n_n none v w (constant S6x256x18944 .f32 0x00000000#32) (ix3 b q l)
      = ∑ k : Fin 3584, v (ix3 b q k) * w (ix2 l k) := by
  pointwise

/-- Per-column values spread along two new leading axes. -/
theorem columns_apply {n0 n1 n2 : Nat} {α : Type} (s : (⟨1, ![n2]⟩ : Shape).Idx → α)
    (h : (⟨1, ![n2]⟩ : Shape).ShapeCasts ⟨3, ![1, 1, n2]⟩)
    (h' : (⟨3, ![1, 1, n2]⟩ : Shape).Broadcasts ⟨3, ![n0, n1, n2]⟩) (b : Fin n0) (q : Fin n1) (k : Fin n2) :
    broadcastTo ⟨3, ![n0, n1, n2]⟩ (shapeCast ⟨3, ![1, 1, n2]⟩ s h) h' (ix3 b q k) = s (ix1 k) := by
  rw [broadcastTo_apply _ h' (ix3 b q k) (ix3 0 0 k)]
  · refine shapeCast_apply _ _ _ _ ?_
    rw [Shape.rowMajor_val_one, Shape.rowMajor_val_three]
    simp
  · intro a
    match a with
    | ⟨0, _⟩ => exact (if_pos rfl).symm
    | ⟨1, _⟩ => exact (if_pos rfl).symm
    | ⟨2, _⟩ =>
      show k.val = if n2 = 1 then 0 else k.val
      split
      · have := k.isLt; omega
      · rfl

/-- The first result, over the two products and the spread scales left as vectors. -/
theorem mixed_of (a s o ws : FVec Ideal S6x256x18944 .f32) (j : S6x256x18944.Idx) :
    truncf .bf16 (mulf (addf (mulf a s) o) ws) bitsLt_bf16_f32 j = (a j * s j + o j) * ws j := rfl

/-- An entry of the matrix kept as it is. -/
theorem kept_of (x : FVec Ideal S6x256x3584 .bf16) (m : IVec S6x256x3584 1) (j : S6x256x3584.Idx) :
    select m x (broadcast S6x256x3584 (Scalar.ofBits .bf16 0x0000#16)) j = Scalar.select (m j) (x j) 0 := by
  pointwise

theorem mixed_apply (x : Vec Ideal S6x256x3584 .bf16) (m : Vec Ideal S3584 .i32) (w : Vec Ideal S18944x3584 .i8)
    (s : FVec Ideal S6x256 .f32) (codes : IVec S6x256x3584 8) (ws : Vec Ideal S18944 .f32) (b : Fin 6) (q : Fin 256) (l : Fin 18944) :
    k0_pay1 (F := Ideal) x (k0_pay5 (F := Ideal) m) (k0_pay6 w) s codes ws (ix3 b q l)
      = mixed (fun k => FloatOps.sitofp (F := Ideal) .bf16 (codes (ix3 b q k))) (fun k => kept (m (ix1 k)) (x (ix3 b q k)))
          (fun k => w (ix2 l k)) (s (ix2 b q)) (ws (ix1 l)) := by
  refine (mixed_of _ _ _ _ _).trans ?_
  rw [product_apply, product_apply, spread_apply, columns_apply]
  unfold mixed
  congr 2
  refine Finset.sum_congr rfl fun k _ => congrArg (· * _) ?_
  refine (kept_of _ _ _).trans ?_
  rw [columns_apply]
  rfl

end Cert.ReferenceIdeal.Own
-- ==== Proof.Clip.lean ====
module

public import proofs.«01_k».proof.Proof.Spec

@[expose] public section

/-! A clipped quotient is a whole number of eight signed bits: coding it and reading the code back changes nothing. -/

noncomputable section

namespace Cert.Spec

open Idealize.ShloMosaic

theorem ofBits_127 : Ideal.ofBits .f32 0x42FE0000#32 = (((127 : ℤ) : ℝ) : EReal) := by
  simp [Ideal.ofBits, Ideal.ieee, -EReal.coe_mul]; norm_num

theorem ofBits_neg_127 : Ideal.ofBits .f32 0xC2FE0000#32 = (((-127 : ℤ) : ℝ) : EReal) := by
  simp [Ideal.ofBits, Ideal.ieee, -EReal.coe_mul, -EReal.coe_neg]; norm_num

/-- Rounding, then clipping, leaves a whole number within the clip's bounds. -/
theorem clipped_eq (v s : EReal) : ∃ z : ℤ, -127 ≤ z ∧ z ≤ 127 ∧ clipped v s = ((z : ℝ) : EReal) := by
  unfold clipped
  rw [ofBits_127, ofBits_neg_127]
  induction Ideal.div v s using EReal.rec with
  | bot => exact ⟨-127, by omega, by omega, by
      rw [show Ideal.liftRound Ideal.roundHalfEven ⊥ = ⊥ from rfl, max_eq_left bot_le]
      exact min_eq_right (EReal.coe_le_coe_iff.mpr (by norm_num))⟩
  | top => exact ⟨127, by omega, by omega, by
      rw [show Ideal.liftRound Ideal.roundHalfEven ⊤ = ⊤ from rfl, max_eq_right le_top, min_eq_left le_top]⟩
  | coe r => exact ⟨min 127 (max (-127) (Ideal.roundHalfEven r)), by omega, by omega, by
      rw [show Ideal.liftRound Ideal.roundHalfEven (r : EReal) = (((Ideal.roundHalfEven r : ℤ) : ℝ) : EReal) from rfl,
        ← EReal.coe_strictMono.monotone.map_max, ← EReal.coe_strictMono.monotone.map_min, ← Int.cast_max, ← Int.cast_min]⟩

/-- Coding a clipped quotient and reading the code back gives the quotient. -/
theorem sitofp_code (v s : EReal) : FloatOps.sitofp (F := Ideal) .bf16 (code v s) = clipped v s := by
  obtain ⟨z, h0, h1, e⟩ := clipped_eq v s
  show (((Ideal.fptosi 8 (clipped v s)).toInt : ℝ) : EReal) = clipped v s
  rw [e, Ideal.fptosi, Ideal.toIntClamped_coe]
  have : (if (0 : ℝ) ≤ (z : ℝ) then ⌊(z : ℝ)⌋ else ⌈(z : ℝ)⌉) = z := by simp
  rw [this]
  have hz : max (-((2 ^ (8 - 1) : ℕ) : ℤ)) (min (((2 ^ (8 - 1) : ℕ) : ℤ) - 1) z) = z := by norm_num; omega
  rw [hz, BitVec.toInt_ofInt_eq_self (by omega) (by norm_num; omega) (by norm_num; omega)]

end Cert.Spec
-- ==== Proof.ReferenceValues.lean ====
module

public import proofs.«01_k».proof.Proof.ReferenceEntries
public import proofs.«01_k».proof.Proof.Clip
public import proofs.«01_k».proof.Proof.Gen.ReferenceIdeal.Value

@[expose] public section

/-! The reference's five results, entry by entry, as functions of the arguments: `x` the activations, `m` the mask of the
outlier columns, `w` the weights' codes and `ws` their scales. -/

noncomputable section

namespace Cert.ReferenceIdeal.Own

open Idealize.ShloMosaic Cert.ReferenceIdeal Cert.ReferenceIdeal.Gen Cert.ReferenceIdeal.Value Cert.Spec

variable (x : Vec Ideal S6x256x3584 .bf16) (m : Vec Ideal S3584 .i32) (w : Vec Ideal S18944x3584 .i8) (ws : Vec Ideal S18944 .f32)

theorem zeros3 : (![0, 0, 0] : Fin 3 → Nat) = fun _ => 0 := funext fun a => by fin_cases a <;> rfl
theorem zeros1 : (![0] : Fin 1 → Nat) = fun _ => 0 := funext fun a => by fin_cases a; rfl

/-- The scales are computed from the whole of `x` and `m`. -/
theorem scales_eq : k0_pay10 x m w ws = k0_pay8 (F := Ideal) x m := by
  unfold k0_pay10
  rw [View.ld_unit_zero (S := S6x256x3584) zeros3, View.ld_unit_zero (S := S3584) zeros1]

theorem scale_entry (b : Fin 6) (q : Fin 256) :
    k0_pay8 (F := Ideal) x m (ix2 b q) = scale (top fun k : Fin 3584 => regular (m (ix1 k)) (x (ix3 b q k))) :=
  (scale_apply x m b q).trans (congrArg scale (congrArg top (funext fun k => regular_apply x m b q k)))

theorem code_entry (b : Fin 6) (q : Fin 256) (k : Fin 3584) :
    k0_pay9 (F := Ideal) x m (ix3 b q k)
      = code (regular (m (ix1 k)) (x (ix3 b q k))) (scale (top fun k : Fin 3584 => regular (m (ix1 k)) (x (ix3 b q k)))) := by
  rw [code_apply, regular_apply, scale_entry]

/-- Result 1: the codes, read back, are the clipped quotients themselves. -/
theorem product_value (b : Fin 6) (q : Fin 256) (l : Fin 18944) :
    (G4 x m w ws : S6x256x18944.Idx → EReal) (ix3 b q l)
      = mixed (fun k : Fin 3584 => clipped (regular (m (ix1 k)) (x (ix3 b q k)))
            (scale (top fun k : Fin 3584 => regular (m (ix1 k)) (x (ix3 b q k)))))
          (fun k => kept (m (ix1 k)) (x (ix3 b q k))) (fun k => w (ix2 l k))
          (scale (top fun k : Fin 3584 => regular (m (ix1 k)) (x (ix3 b q k)))) (ws (ix1 l)) := by
  refine (mixed_apply x m w (k0_pay10 x m w ws) (k0_pay9 x m) ws b q l).trans ?_
  rw [scales_eq, scale_entry]
  exact congrArg (fun c => mixed c _ _ _ _) (funext fun k => (congrArg _ (code_entry x m b q k)).trans (sitofp_code _ _))

theorem colmax_value (k : Fin 3584) :
    (G5 x m w ws : S3584.Idx → EReal) (ix1 k) = top fun p : Fin 6 × Fin 256 => x (ix3 p.1 p.2 k) :=
  colmax_apply x k

theorem flag_value (k : Fin 3584) :
    (G6 x m w ws : S3584.Idx → BitVec 32) (ix1 k) = flag (top fun p : Fin 6 × Fin 256 => x (ix3 p.1 p.2 k)) :=
  (flag_apply x (ix1 k)).trans (congrArg flag (colmax_apply x k))

theorem code_value (b : Fin 6) (q : Fin 256) (k : Fin 3584) :
    (G7 x m w ws : S6x256x3584.Idx → BitVec 8) (ix3 b q k)
      = code (regular (m (ix1 k)) (x (ix3 b q k))) (scale (top fun k : Fin 3584 => regular (m (ix1 k)) (x (ix3 b q k)))) :=
  code_entry x m b q k

theorem scale_value (b : Fin 6) (q : Fin 256) :
    (G8 x m w ws : S6x256.Idx → EReal) (ix2 b q) = scale (top fun k : Fin 3584 => regular (m (ix1 k)) (x (ix3 b q k))) := by
  show k0_pay10 x m w ws (ix2 b q) = _
  rw [scales_eq, scale_entry]

end Cert.ReferenceIdeal.Own
-- ==== Proof.Values.lean ====
module

public import proofs.«01_k».proof.Defs
public import proofs.«01_k».proof.Proof.KernelArrays
public import proofs.«01_k».proof.Proof.ReferenceValues

@[expose] public section

/-! Kernel and reference agree on all five results: each result of either program is the same function of the arguments,
entry by entry. -/

noncomputable section

namespace Cert.Proof

open Idealize.ShloMosaic Idealize.ShloMosaic.TcCoe Idealize.SL.Sem
open Cert.KernelIdeal Cert.KernelIdeal.Own Cert.Spec

variable (m : (ℓ : Loc nD τ sig) → Buf (Elt Ideal) ℓ) (ρ : Dev nD → PrngReg) (c : Dev nD)

theorem product_agrees : (W5 m ρ c (Proc.devRef .tc main_v5) : S6x256x18944.Idx → EReal)
    = Cert.ReferenceIdeal.Value.G4 (argX m c) (argM m c) (argW m c) (argS m c) := by
  funext i
  rw [eq_ix3 i]
  exact (result_product m ρ c _ _ _).trans (Cert.ReferenceIdeal.Own.product_value _ _ _ _ _ _ _).symm

theorem colmax_agrees : (W5 m ρ c (Proc.devRef .tc main_v6) : S3584.Idx → EReal)
    = Cert.ReferenceIdeal.Value.G5 (argX m c) (argM m c) (argW m c) (argS m c) := by
  funext i
  rw [eq_ix1 i]
  exact (result_colmax m ρ c _).trans (Cert.ReferenceIdeal.Own.colmax_value _ _ _ _ _).symm

theorem flag_agrees : (W5 m ρ c (Proc.devRef .tc main_v7) : S3584.Idx → BitVec 32)
    = Cert.ReferenceIdeal.Value.G6 (argX m c) (argM m c) (argW m c) (argS m c) := by
  funext i
  rw [eq_ix1 i]
  exact (result_flag m ρ c _).trans (Cert.ReferenceIdeal.Own.flag_value _ _ _ _ _).symm

theorem code_agrees : (W5 m ρ c (Proc.devRef .tc main_v8) : S6x256x3584.Idx → BitVec 8)
    = Cert.ReferenceIdeal.Value.G7 (argX m c) (argM m c) (argW m c) (argS m c) := by
  funext i
  rw [eq_ix3 i]
  exact (result_code m ρ c _ _ _).trans (Cert.ReferenceIdeal.Own.code_value _ _ _ _ _ _ _).symm

theorem scale_agrees : (W5 m ρ c (Proc.devRef .tc main_v9) : S6x256.Idx → EReal)
    = Cert.ReferenceIdeal.Value.G8 (argX m c) (argM m c) (argW m c) (argS m c) := by
  funext i
  rw [eq_ix2 i]
  exact (result_scale m ρ c _ _).trans (Cert.ReferenceIdeal.Own.scale_value _ _ _ _ _ _).symm

theorem values : @algebraic_KernelIdeal_ReferenceIdeal Cert.KernelIdeal.Gen.facts Cert.ReferenceIdeal.Gen.facts := by
  intro m g m' g' _ hargs
  refine ⟨fun c => W5 m g c (Proc.devRef .tc main_v5), fun c => W5 m g c (Proc.devRef .tc main_v6),
    fun c => W5 m g c (Proc.devRef .tc main_v7), fun c => W5 m g c (Proc.devRef .tc main_v8),
    fun c => W5 m g c (Proc.devRef .tc main_v9), ?_, ?_⟩
  · refine (θ_run _ _ _).mono (fun r h c => ?_) (run_all m g)
    exact ⟨h.1 c _ (mem_uc main_v5 (by decide)), h.1 c _ (mem_uc main_v6 (by decide)), h.1 c _ (mem_uc main_v7 (by decide)),
      h.1 c _ (mem_uc main_v8 (by decide)), h.1 c _ (mem_uc main_v9 (by decide)),
      (h.1 c _ (mem_uc main_arg0 (by decide))).trans (W5_main_arg0 m g c),
      (h.1 c _ (mem_uc main_arg1 (by decide))).trans (W5_main_arg1 m g c),
      (h.1 c _ (mem_uc main_arg2 (by decide))).trans (W5_main_arg2 m g c),
      (h.1 c _ (mem_uc main_arg3 (by decide))).trans (W5_main_arg3 m g c)⟩
  · refine (θ_run _ _ _).mono (fun r h c => ?_) (Cert.ReferenceIdeal.Value.run (F := Ideal) m' g')
    obtain ⟨h0, h1, h2, h3, h4, hs⟩ := h c
    obtain ⟨a0, a1, a2, a3⟩ := hargs c
    rw [a0, a1, a2, a3] at h0 h1 h2 h3 h4
    exact ⟨h0.trans (product_agrees m g c).symm, h1.trans (colmax_agrees m g c).symm, h2.trans (flag_agrees m g c).symm,
      h3.trans (code_agrees m g c).symm, h4.trans (scale_agrees m g c).symm, hs⟩

end Cert.Proof
-- ==== Proof.lean ====
/- The certificate: each conjunct of `Cert.Claim` by its own theorem. -/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelIdealRun
public import proofs.«01_k».proof.Proof.KernelRun
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Own.frame m ρ,
  fun m ρ _ => Cert.KernelIdeal.Own.frame m ρ,
  fun m ρ _ => Cert.ReferenceIdeal.Gen.frame m ρ,
  trivial,
  values⟩

end Cert.Proof

end
